-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_largest_target_finite [hPre_largest_target_finite : Cert.Pre_largest_target_finite.Facts] (m : (ℓ : Loc Cert.KernelIdeal.nD Cert.KernelIdeal.τ Cert.KernelIdeal.sig) → Buf (Elt Ideal) ℓ) : Prop :=
  ∀ c : Dev Cert.KernelIdeal.nD,
    (Cert.Pre_largest_target_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_largest_target_finite [hPre_largest_target_finite : Cert.Pre_largest_target_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_largest_target_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_largest_target_finite [hKernelIdeal : Cert.KernelIdeal.Facts] [hPre_largest_target_finite : Cert.Pre_largest_target_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_largest_target_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_largest_target_finite [hReferenceIdeal : Cert.ReferenceIdeal.Facts] [hPre_largest_target_finite : Cert.Pre_largest_target_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_largest_target_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_largest_target_finite [hKernelIdeal : Cert.KernelIdeal.Facts] [hReferenceIdeal : Cert.ReferenceIdeal.Facts] [hPre_largest_target_finite : Cert.Pre_largest_target_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_largest_target_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_largest_target_finite : Cert.Pre_largest_target_finite.Facts),
    quiescent_Kernel (hKernel := hKernel)
    ∧ quiescent_KernelIdeal (hKernelIdeal := hKernelIdeal)
    ∧ quiescent_KernelIdeal_pre_largest_target_finite (hKernelIdeal := hKernelIdeal) (hPre_largest_target_finite := hPre_largest_target_finite)
    ∧ quiescent_ReferenceIdeal (hReferenceIdeal := hReferenceIdeal)
    ∧ quiescent_ReferenceIdeal_pre_largest_target_finite (hReferenceIdeal := hReferenceIdeal) (hPre_largest_target_finite := hPre_largest_target_finite)
    ∧ preserves_Kernel_KernelIdeal
    ∧ algebraic_KernelIdeal_ReferenceIdeal_pre_largest_target_finite (hKernelIdeal := hKernelIdeal) (hReferenceIdeal := hReferenceIdeal) (hPre_largest_target_finite := hPre_largest_target_finite)
-- ==== Pre_largest_target_finite.lean ====
abbrev S8x21x512x512 : Shape := ⟨4, ![8, 21, 512, 512]⟩
abbrev S8x16x512x512 : Shape := ⟨4, ![8, 16, 512, 512]⟩
abbrev S_ : Shape := ⟨0, ![]⟩
abbrev S8x512x512 : Shape := ⟨3, ![8, 512, 512]⟩

class Facts : Prop where
  reducesTo_S8x16x512x512_S8x512x512_d1 : S8x16x512x512.ReducesTo [1] S8x512x512
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x21x512x512 .f32) (main_arg1 : FVec F S8x16x512x512 .f32) : IVec S_ 1 :=
  let main_cst : FVec F S_ .f32 := constant S_ .f32 0xFF800000#32
  let main_v0 : FVec F S8x512x512 .f32 := (fun x v => Host.reduce FloatOps.maximumf x v reducesTo_S8x16x512x512_S8x512x512_d1 h_S_) main_arg1 main_cst
  let main_cst_0 : FVec F S_ .f32 := constant S_ .f32 0xFF800000#32
  let main_v1 : FVec F S8x512x512 .f32 := broadcastInDim S8x512x512 ![] bcast_S_S8x512x512 main_cst_0
  let main_v2 : IVec S8x512x512 1 := cmpf .ogt main_v0 main_v1
  let main_cst_1 : FVec F S_ .f32 := constant S_ .f32 0x7F800000#32
  let main_v3 : FVec F S8x512x512 .f32 := broadcastInDim S8x512x512 ![] bcast_S_S8x512x512 main_cst_1
  let main_v4 : IVec S8x512x512 1 := cmpf .olt main_v0 main_v3
  let main_v5 : IVec S8x512x512 1 := andi main_v2 main_v4
  let main_c : IVec S_ 1 := constantI S_ 1 1#1
  let main_v6 : IVec S_ 1 := (fun x v => Host.reduce IntOp.andi x v reducesTo_S8x512x512_S_d0_1_2 h_S_) main_v5 main_c
  main_v6
-- ==== Kernel.lean ====
abbrev S8x21x512x512 : Shape := ⟨4, ![8, 21, 512, 512]⟩
abbrev S8x16x512x512 : Shape := ⟨4, ![8, 16, 512, 512]⟩
abbrev S8x21x512 : Shape := ⟨3, ![8, 21, 512]⟩
abbrev S8x16x512 : Shape := ⟨3, ![8, 16, 512]⟩
abbrev S1x21x128x512 : Shape := ⟨4, ![1, 21, 128, 512]⟩
abbrev S1x16x128x512 : Shape := ⟨4, ![1, 16, 128, 512]⟩
abbrev S1x21x512 : Shape := ⟨3, ![1, 21, 512]⟩
abbrev S1x16x512 : Shape := ⟨3, ![1, 16, 512]⟩
abbrev S21x128x512 : Shape := ⟨3, ![21, 128, 512]⟩
abbrev S16x128x512 : Shape := ⟨3, ![16, 128, 512]⟩
abbrev S1x128x512 : Shape := ⟨3, ![1, 128, 512]⟩
abbrev S128x512 : Shape := ⟨2, ![128, 512]⟩
abbrev S512 : Shape := ⟨1, ![512]⟩
abbrev S1x512 : Shape := ⟨2, ![1, 512]⟩
abbrev S16x512 : Shape := ⟨2, ![16, 512]⟩
abbrev S2048x512 : Shape := ⟨2, ![2048, 512]⟩
abbrev S16x8x512 : Shape := ⟨3, ![16, 8, 512]⟩
abbrev S8x512 : Shape := ⟨2, ![8, 512]⟩
abbrev S21x512 : Shape := ⟨2, ![21, 512]⟩
abbrev S1x1 : Shape := ⟨2, ![1, 1]⟩
abbrev S8x21 : Shape := ⟨2, ![8, 21]⟩
abbrev S8x5 : Shape := ⟨2, ![8, 5]⟩
abbrev S8 : Shape := ⟨1, ![8]⟩
abbrev S8x1 : Shape := ⟨2, ![8, 1]⟩
abbrev S8x16 : Shape := ⟨2, ![8, 16]⟩
abbrev S1 : Shape := ⟨1, ![1]⟩
abbrev S_ : Shape := ⟨0, ![]⟩

abbrev nBuf : Space → Nat
  | .hbm => 6
  | .vmem => 11
  | .smem => 0
  | _ => 0

abbrev bufTy : (tb : Table) → Fin (tcTables nBuf tb) → BufTy
  | .hbm, ⟨0, _⟩ => ⟨S8x21x512x512, .f32⟩
  | .hbm, ⟨1, _⟩ => ⟨S8x16x512x512, .f32⟩
  | .hbm, ⟨2, _⟩ => ⟨S8x21x512, .f32⟩
  | .hbm, ⟨3, _⟩ => ⟨S8x16x512, .f32⟩
  | .hbm, ⟨4, _⟩ => ⟨S1x1, .f32⟩
  | .hbm, ⟨5, _⟩ => ⟨S_, .f32⟩
  | .local _ .vmem, ⟨0, _⟩ => ⟨S1x21x128x512, .f32⟩
  | .local _ .vmem, ⟨1, _⟩ => ⟨S1x21x128x512, .f32⟩
  | .local _ .vmem, ⟨2, _⟩ => ⟨S1x16x128x512, .f32⟩
  | .local _ .vmem, ⟨3, _⟩ => ⟨S1x16x128x512, .f32⟩
  | .local _ .vmem, ⟨4, _⟩ => ⟨S1x21x512, .f32⟩
  | .local _ .vmem, ⟨5, _⟩ => ⟨S1x21x512, .f32⟩
  | .local _ .vmem, ⟨6, _⟩ => ⟨S1x16x512, .f32⟩
  | .local _ .vmem, ⟨7, _⟩ => ⟨S1x16x512, .f32⟩
  | .local _ .vmem, ⟨8, _⟩ => ⟨S8x21x512, .f32⟩
  | .local _ .vmem, ⟨9, _⟩ => ⟨S8x16x512, .f32⟩
  | .local _ .vmem, ⟨10, _⟩ => ⟨S1x1, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.divsi arg1 c4_i32_0
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v18.toNat, c0_i32_11.toNat, v28.toNat, c0_i32_12.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.divsi arg1 c4_i32_0
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v18.toNat, c0_i32_11.toNat, v28.toNat, c0_i32_12.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.divsi arg1 c4_i32_0
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.divsi arg1 c4_i32_0
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_5 : BitVec 32 := 0#32
  let c0_i32_6 : BitVec 32 := 0#32
  let c0_i32_7 : BitVec 32 := 0#32
  ![v18.toNat, c0_i32_5.toNat, c0_i32_6.toNat]

abbrev stage0_0 : Fin 2 → Memref sig .tc .vmem S1x21x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x21x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := .none

abbrev stage1_0 : Fin 1 → Memref sig .tc .vmem S8x21x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x16x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S8x21x512x512 : Shape := ⟨4, ![8, 21, 512, 512]⟩
abbrev S8x16x512x512 : Shape := ⟨4, ![8, 16, 512, 512]⟩
abbrev S1 : Shape := ⟨1, ![1]⟩
abbrev S_ : Shape := ⟨0, ![]⟩
abbrev S8x512x512 : Shape := ⟨3, ![8, 512, 512]⟩
abbrev S8x1x512x512 : Shape := ⟨4, ![8, 1, 512, 512]⟩
abbrev S8x15x512x512 : Shape := ⟨4, ![8, 15, 512, 512]⟩
abbrev S5 : Shape := ⟨1, ![5]⟩
abbrev S6 : Shape := ⟨1, ![6]⟩
abbrev S6x1 : Shape := ⟨2, ![6, 1]⟩
abbrev S8x6x512x512 : Shape := ⟨4, ![8, 6, 512, 512]⟩
abbrev S8x4194304 : Shape := ⟨2, ![8, 4194304]⟩
abbrev S8 : Shape := ⟨1, ![8]⟩
abbrev S8x1 : Shape := ⟨2, ![8, 1]⟩
abbrev S8x21 : Shape := ⟨2, ![8, 21]⟩
abbrev S33554432 : Shape := ⟨1, ![33554432]⟩
abbrev S33554432x1 : Shape := ⟨2, ![33554432, 1]⟩
abbrev S33554432x2 : Shape := ⟨2, ![33554432, 2]⟩
abbrev S8x5 : Shape := ⟨2, ![8, 5]⟩
abbrev S8x16 : Shape := ⟨2, ![8, 16]⟩
abbrev S8x16x1x1 : Shape := ⟨4, ![8, 16, 1, 1]⟩

abbrev nBuf : Space → Nat
  | .hbm => 163
  | .vmem => 0
  | .smem => 0
  | _ => 0

abbrev hbmTy0_0 (i : Nat) : BufTy := match i % 128 with
  | 0 => ⟨S8x21x512x512, .f32⟩
  | 1 => ⟨S8x16x512x512, .f32⟩
  | 2 => ⟨S1, .i32⟩
  | 3 => ⟨S_, .f32⟩
  | 4 => ⟨S8x16x512x512, .f32⟩
  | 5 => ⟨S8x16x512x512, .f32⟩
  | 6 => ⟨S_, .f32⟩
  | 7 => ⟨S8x512x512, .f32⟩
  | 8 => ⟨S8x1x512x512, .f32⟩
  | 9 => ⟨S8x1x512x512, .f32⟩
  | 10 => ⟨S_, .f32⟩
  | 11 => ⟨S8x1x512x512, .f32⟩
  | 12 => ⟨S8x1x512x512, .i1⟩
  | 13 => ⟨S_, .f32⟩
  | 14 => ⟨S_, .f32⟩
  | 15 => ⟨S8x1x512x512, .f32⟩
  | 16 => ⟨S8x1x512x512, .f32⟩
  | 17 => ⟨S8x21x512x512, .f32⟩
  | 18 => ⟨S8x21x512x512, .f32⟩
  | 19 => ⟨S8x21x512x512, .f32⟩
  | 20 => ⟨S_, .f32⟩
  | 21 => ⟨S8x512x512, .f32⟩
  | 22 => ⟨S8x512x512, .f32⟩
  | 23 => ⟨S8x512x512, .f32⟩
  | 24 => ⟨S8x512x512, .f32⟩
  | 25 => ⟨S8x15x512x512, .f32⟩
  | 26 => ⟨S8x1x512x512, .f32⟩
  | 27 => ⟨S8x15x512x512, .f32⟩
  | 28 => ⟨S8x15x512x512, .f32⟩
  | 29 => ⟨S5, .i32⟩
  | 30 => ⟨S_, .i32⟩
  | 31 => ⟨S5, .i32⟩
  | 32 => ⟨S5, .i32⟩
  | 33 => ⟨S6, .i32⟩
  | 34 => ⟨S_, .i32⟩
  | 35 => ⟨S6, .i32⟩
  | 36 => ⟨S6, .i1⟩
  | 37 => ⟨S_, .i32⟩
  | 38 => ⟨S6, .i32⟩
  | 39 => ⟨S6, .i32⟩
  | 40 => ⟨S6, .i32⟩
  | 41 => ⟨S6x1, .i32⟩
  | 42 => ⟨S8x6x512x512, .f32⟩
  | 43 => ⟨S_, .f32⟩
  | 44 => ⟨S8x512x512, .f32⟩
  | 45 => ⟨S8x1x512x512, .f32⟩
  | 46 => ⟨S8x1x512x512, .f32⟩
  | 47 => ⟨S_, .f32⟩
  | 48 => ⟨S8x1x512x512, .f32⟩
  | 49 => ⟨S8x1x512x512, .i1⟩
  | 50 => ⟨S_, .f32⟩
  | 51 => ⟨S_, .f32⟩
  | 52 => ⟨S8x1x512x512, .f32⟩
  | 53 => ⟨S8x1x512x512, .f32⟩
  | 54 => ⟨S8x6x512x512, .f32⟩
  | 55 => ⟨S8x6x512x512, .f32⟩
  | 56 => ⟨S8x6x512x512, .f32⟩
  | 57 => ⟨S_, .f32⟩
  | 58 => ⟨S8x512x512, .f32⟩
  | 59 => ⟨S8x512x512, .f32⟩
  | 60 => ⟨S8x512x512, .f32⟩
  | 61 => ⟨S8x512x512, .f32⟩
  | 62 => ⟨S8x512x512, .f32⟩
  | 63 => ⟨S8x4194304, .f32⟩
  | 64 => ⟨S_, .f32⟩
  | 65 => ⟨S8x4194304, .f32⟩
  | 66 => ⟨S8x4194304, .f32⟩
  | 67 => ⟨S8x4194304, .f32⟩
  | 68 => ⟨S8x4194304, .i32⟩
  | 69 => ⟨S_, .i32⟩
  | 70 => ⟨S_, .i32⟩
  | 71 => ⟨S_, .i32⟩
  | 72 => ⟨S8x4194304, .i32⟩
  | 73 => ⟨S8x4194304, .i32⟩
  | 74 => ⟨S_, .i32⟩
  | 75 => ⟨S8x4194304, .i32⟩
  | 76 => ⟨S8x4194304, .i32⟩
  | 77 => ⟨S_, .f32⟩
  | 78 => ⟨S8x4194304, .f32⟩
  | 79 => ⟨S8x4194304, .i1⟩
  | 80 => ⟨S_, .f32⟩
  | 81 => ⟨S8x4194304, .f32⟩
  | 82 => ⟨S8x4194304, .i1⟩
  | 83 => ⟨S8x4194304, .i1⟩
  | 84 => ⟨S8, .i32⟩
  | 85 => ⟨S8x1, .i32⟩
  | 86 => ⟨S8x4194304, .i32⟩
  | 87 => ⟨S_, .f32⟩
  | 88 => ⟨S8x21, .f32⟩
  | 89 => ⟨S33554432, .i32⟩
  | 90 => ⟨S33554432, .i32⟩
  | 91 => ⟨S33554432, .i1⟩
  | 92 => ⟨S33554432, .f32⟩
  | 93 => ⟨S_, .i32⟩
  | 94 => ⟨S33554432, .i32⟩
  | 95 => ⟨S33554432, .i1⟩
  | 96 => ⟨S_, .i32⟩
  | 97 => ⟨S33554432, .i32⟩
  | 98 => ⟨S33554432, .i32⟩
  | 99 => ⟨S33554432, .i32⟩
  | 100 => ⟨S_, .i32⟩
  | 101 => ⟨S33554432, .i32⟩
  | 102 => ⟨S33554432, .i1⟩
  | 103 => ⟨S_, .i32⟩
  | 104 => ⟨S33554432, .i32⟩
  | 105 => ⟨S33554432, .i32⟩
  | 106 => ⟨S33554432, .i32⟩
  | 107 => ⟨S33554432x1, .i32⟩
  | 108 => ⟨S33554432x1, .i32⟩
  | 109 => ⟨S33554432x2, .i32⟩
  | 110 => ⟨S8x21, .f32⟩
  | 111 => ⟨S_, .f32⟩
  | 112 => ⟨S8x21, .f32⟩
  | 113 => ⟨S8x21, .i1⟩
  | 114 => ⟨S_, .f32⟩
  | 115 => ⟨S_, .f32⟩
  | 116 => ⟨S8x21, .f32⟩
  | 117 => ⟨S8x21, .f32⟩
  | 118 => ⟨S8x5, .f32⟩
  | 119 => ⟨S_, .f32⟩
  | 120 => ⟨S8, .f32⟩
  | 121 => ⟨S8x16, .f32⟩
  | 122 => ⟨S_, .i32⟩
  | 123 => ⟨S1, .i32⟩
  | 124 => ⟨S8x16, .f32⟩
  | 125 => ⟨S_, .f32⟩
  | 126 => ⟨S8, .f32⟩
  | 127 => ⟨S8x1, .f32⟩
  | _ => ⟨S8x21x512x512, .f32⟩

abbrev hbmTy0_1 (i : Nat) : BufTy := match i % 128 with
  | 0 => ⟨S8x16, .f32⟩
  | 1 => ⟨S8x16, .f32⟩
  | 2 => ⟨S_, .f32⟩
  | 3 => ⟨S8x16, .f32⟩
  | 4 => ⟨S8x16, .f32⟩
  | 5 => ⟨S8x16x1x1, .f32⟩
  | 6 => ⟨S_, .f32⟩
  | 7 => ⟨S8x512x512, .f32⟩
  | 8 => ⟨S_, .f32⟩
  | 9 => ⟨S8x512x512, .f32⟩
  | 10 => ⟨S8x512x512, .f32⟩
  | 11 => ⟨S8x1x512x512, .f32⟩
  | 12 => ⟨S8x16x512x512, .f32⟩
  | 13 => ⟨S8x16x512x512, .f32⟩
  | 14 => ⟨S8x16x512x512, .f32⟩
  | 15 => ⟨S_, .f32⟩
  | 16 => ⟨S8x512x512, .f32⟩
  | 17 => ⟨S8x1x512x512, .f32⟩
  | 18 => ⟨S8x16x512x512, .f32⟩
  | 19 => ⟨S8x16x512x512, .f32⟩
  | 20 => ⟨S8x16x512x512, .f32⟩
  | 21 => ⟨S8x16x512x512, .f32⟩
  | 22 => ⟨S8x1x512x512, .f32⟩
  | 23 => ⟨S8x512x512, .f32⟩
  | 24 => ⟨S8x512x512, .f32⟩
  | 25 => ⟨S8x15x512x512, .f32⟩
  | 26 => ⟨S8x15x512x512, .f32⟩
  | 27 => ⟨S_, .f32⟩
  | 28 => ⟨S8x512x512, .f32⟩
  | 29 => ⟨S8x512x512, .f32⟩
  | 30 => ⟨S_, .f32⟩
  | 31 => ⟨S_, .f32⟩
  | 32 => ⟨S_, .f32⟩
  | 33 => ⟨S_, .f32⟩
  | 34 => ⟨S_, .f32⟩
  | _ => ⟨S8x21x512x512, .f32⟩

abbrev hbmTy (i : Nat) : BufTy := match i / 128 with
  | 0 => hbmTy0_0 i
  | 1 => hbmTy0_1 i
  | _ => ⟨S8x21x512x512, .f32⟩

abbrev bufTy : (tb : Table) → Fin (tcTables nBuf tb) → BufTy
  | .hbm, ⟨i, _⟩ => hbmTy i
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_call1_v0 : Ref sig .tc := ⟨.hbm, 51, rfl⟩
abbrev main_call1_v1 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_12 : Ref sig .tc := ⟨.hbm, 69, rfl⟩
abbrev main_c_13 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v49 : Ref sig .tc := ⟨.hbm, 76, rfl⟩
abbrev main_cst_14 : Ref sig .tc := ⟨.hbm, 77, rfl⟩
abbrev main_v50 : Ref sig .tc := ⟨.hbm, 78, rfl⟩
abbrev main_v51 : Ref sig .tc := ⟨.hbm, 79, rfl⟩
abbrev main_cst_15 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_16 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_17 : Ref sig .tc := ⟨.hbm, 93, rfl⟩
abbrev main_v63 : Ref sig .tc := ⟨.hbm, 94, rfl⟩
abbrev main_v64 : Ref sig .tc := ⟨.hbm, 95, rfl⟩
abbrev main_c_18 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_19 : Ref sig .tc := ⟨.hbm, 100, rfl⟩
abbrev main_v68 : Ref sig .tc := ⟨.hbm, 101, rfl⟩
abbrev main_v69 : Ref sig .tc := ⟨.hbm, 102, rfl⟩
abbrev main_c_20 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_21 : Ref sig .tc := ⟨.hbm, 111, rfl⟩
abbrev main_v77 : Ref sig .tc := ⟨.hbm, 112, rfl⟩
abbrev main_v78 : Ref sig .tc := ⟨.hbm, 113, rfl⟩
abbrev main_cst_22 : Ref sig .tc := ⟨.hbm, 114, rfl⟩
abbrev main_call3_v0 : Ref sig .tc := ⟨.hbm, 115, rfl⟩
abbrev main_call3_v1 : Ref sig .tc := ⟨.hbm, 116, rfl⟩
abbrev main_v79 : Ref sig .tc := ⟨.hbm, 117, rfl⟩
abbrev main_v80 : Ref sig .tc := ⟨.hbm, 118, rfl⟩
abbrev main_cst_23 : Ref sig .tc := ⟨.hbm, 119, rfl⟩
abbrev main_v81 : Ref sig .tc := ⟨.hbm, 120, rfl⟩
abbrev main_v82 : Ref sig .tc := ⟨.hbm, 121, rfl⟩
abbrev main_c_24 : Ref sig .tc := ⟨.hbm, 122, rfl⟩
abbrev main_v83 : Ref sig .tc := ⟨.hbm, 123, rfl⟩
abbrev main_v84 : Ref sig .tc := ⟨.hbm, 124, rfl⟩
abbrev main_cst_25 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_26 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_27 : Ref sig .tc := ⟨.hbm, 134, rfl⟩
abbrev main_v92 : Ref sig .tc := ⟨.hbm, 135, rfl⟩
abbrev main_cst_28 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_29 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_30 : Ref sig .tc := ⟨.hbm, 155, rfl⟩
abbrev main_v110 : Ref sig .tc := ⟨.hbm, 156, rfl⟩
abbrev main_v111 : Ref sig .tc := ⟨.hbm, 157, rfl⟩
abbrev main_cst_31 : Ref sig .tc := ⟨.hbm, 158, rfl⟩
abbrev main_v112 : Ref sig .tc := ⟨.hbm, 159, rfl⟩
abbrev main_cst_32 : Ref sig .tc := ⟨.hbm, 160, rfl⟩
abbrev main_v113 : Ref sig .tc := ⟨.hbm, 161, rfl⟩
abbrev main_v114 : Ref sig .tc := ⟨.hbm, 162, rfl⟩

abbrev nD : Nat := 1
abbrev τ : Topo := Topo.v7x

variable {F : FTy → Type} [FloatOps F]
-- ==== Proof.Count.lean ====
/-
  What one block of the kernel adds to the histogram: the packed words it sums, one chunk of 128 rows at a time, and the
  counts it reads out of them.
-/
module

public import proofs.«01_k».proof.Proof.Gen.KernelIdeal.Skeleton
public import Idealize.ShloMosaic.Lib.Pointwise
public import Idealize.ShloMosaic.Lib.PackedFields
public import Idealize.ShloMosaic.Lib.WordSum

@[expose] public section

set_option maxRecDepth 16384

noncomputable section

open Idealize.ShloMosaic

namespace Cert.KernelIdeal.Hand

open Cert.KernelIdeal Cert.KernelIdeal.Gen

/-- The bin of one target: the floor of the target over the bin width, held at 20, or −8 above 20. -/
def bin (t : Ideal .f32) : BitVec 32 :=
  Scalar.select (FloatOps.cmpf .ogt t (Scalar.ofBits .f32 0x41A00000#32)) 4294967288#32
    (IntOp.minsi (FloatOps.fptosi 32 (FloatOps.floor (FloatOps.divf t (Scalar.ofBits .f32 0x3F73CF3D#32)))) 20#32)

/-- The word that a target of bin `q` adds to packed word `g`: a one in byte `q mod 4` if `q / 4` is `g`. -/
def mark (g q : BitVec 32) : BitVec 32 :=
  Scalar.select (IntOp.cmpi .eq (IntOp.shrsi .vector q 2#32) g)
    (IntOp.shli .vector 1#32 (IntOp.shli .vector (IntOp.andi q 3#32) 3#32)) 0#32

/-- The bins of a chunk of 128 rows. -/
def binV (v : FVec Ideal S128x512 .f32) : IVec S128x512 32 :=
  select (cmpf .ogt v (broadcast S128x512 (Scalar.ofBits .f32 0x41A00000#32))) (broadcast S128x512 4294967288#32)
    (minsi (fptosi 32 (floor (divf v (broadcast S128x512 (Scalar.ofBits .f32 0x3F73CF3D#32))))) (broadcast S128x512 20#32))

/-- Packed word `g` of a chunk: its 16 groups of 8 rows added. -/
def chunkV (g : BitVec 32) (v : FVec Ideal S128x512 .f32) : IVec S8x512 32 :=
  multiReductionI .add [0] S8x512
    (shapeCast S16x8x512
      (select (cmpi .eq (shrsi (binV v) (broadcast S128x512 2#32)) (broadcast S128x512 g))
        (shli (broadcast S128x512 1#32) (shli (andi (binV v) (broadcast S128x512 3#32)) (broadcast S128x512 3#32)))
        (broadcast S128x512 0#32))
      shapeCasts_S128x512_S16x8x512)
    0#32 reduces_S16x8x512_S8x512 rfl

/-- A chunk's bins at an index are the bins of its values. -/
theorem binV_apply (v : FVec Ideal S128x512 .f32) (j : S128x512.Idx) : binV v j = bin (v j) := rfl

/-- A fold by integer addition over a finite set is the sum over it. -/
theorem fold_addi_eq_sum {ι : Type} (S : Finset ι) (f : ι → BitVec 32) :
    S.fold IntOp.addi 0#32 f = ∑ k ∈ S, f k := by
  classical
  induction S using Finset.induction_on with
  | empty => rfl
  | insert a S ha ih => rw [Finset.fold_insert ha, Finset.sum_insert ha, ih]; rfl

/-- A chunk's packed word at an index: the marks of the 16 rows that fall there, added. -/
theorem chunkV_apply (g : BitVec 32) (v : FVec Ideal S128x512 .f32) (i : Fin 8) (w : Fin 512) :
    chunkV g v (ix2 i w) = ∑ k : Fin 16, mark g (bin (v (ix2 ⟨k.val * 8 + i.val, by omega⟩ w))) := by
  pointwise [chunkV]
  rw [fold_addi_eq_sum]
  rfl

/-- Packed word `g` over the first 8 chunks. -/
def lowV (g : BitVec 32) (T : FVec Ideal S2048x512 .f32) : IVec S8x512 32 :=
  addi (addi (addi (addi (addi (addi (addi
    (chunkV g (extractStridedSlice S128x512 ![0, 0] T slices_S2048x512_o0_0_S128x512))
    (chunkV g (extractStridedSlice S128x512 ![128, 0] T slices_S2048x512_o128_0_S128x512)))
    (chunkV g (extractStridedSlice S128x512 ![256, 0] T slices_S2048x512_o256_0_S128x512)))
    (chunkV g (extractStridedSlice S128x512 ![384, 0] T slices_S2048x512_o384_0_S128x512)))
    (chunkV g (extractStridedSlice S128x512 ![512, 0] T slices_S2048x512_o512_0_S128x512)))
    (chunkV g (extractStridedSlice S128x512 ![640, 0] T slices_S2048x512_o640_0_S128x512)))
    (chunkV g (extractStridedSlice S128x512 ![768, 0] T slices_S2048x512_o768_0_S128x512)))
    (chunkV g (extractStridedSlice S128x512 ![896, 0] T slices_S2048x512_o896_0_S128x512))

/-- Packed word `g` over the last 8 chunks. -/
def highV (g : BitVec 32) (T : FVec Ideal S2048x512 .f32) : IVec S8x512 32 :=
  addi (addi (addi (addi (addi (addi (addi
    (chunkV g (extractStridedSlice S128x512 ![1024, 0] T slices_S2048x512_o1024_0_S128x512))
    (chunkV g (extractStridedSlice S128x512 ![1152, 0] T slices_S2048x512_o1152_0_S128x512)))
    (chunkV g (extractStridedSlice S128x512 ![1280, 0] T slices_S2048x512_o1280_0_S128x512)))
    (chunkV g (extractStridedSlice S128x512 ![1408, 0] T slices_S2048x512_o1408_0_S128x512)))
    (chunkV g (extractStridedSlice S128x512 ![1536, 0] T slices_S2048x512_o1536_0_S128x512)))
    (chunkV g (extractStridedSlice S128x512 ![1664, 0] T slices_S2048x512_o1664_0_S128x512)))
    (chunkV g (extractStridedSlice S128x512 ![1792, 0] T slices_S2048x512_o1792_0_S128x512)))
    (chunkV g (extractStridedSlice S128x512 ![1920, 0] T slices_S2048x512_o1920_0_S128x512))

/-- The sum of marks that a packed word over 8 chunks is, `o` the first chunk. -/
def marks (g : BitVec 32) (T : FVec Ideal S2048x512 .f32) (o : Fin 2) (i : Fin 8) (w : Fin 512) : BitVec 32 :=
  ∑ c : Fin 8, ∑ k : Fin 16,
    mark g (bin (T (ix2 ⟨o.val * 1024 + c.val * 128 + (k.val * 8 + i.val), by omega⟩ w)))

/-- Packed word `g` over the first 8 chunks, at an index, is its sum of marks. -/
theorem lowV_apply (g : BitVec 32) (T : FVec Ideal S2048x512 .f32) (i : Fin 8) (w : Fin 512) :
    lowV g T (ix2 i w) = marks g T 0 i w := by
  unfold marks lowV
  rw [Fin.sum_univ_eight]
  simp only [addi, chunkV_apply]
  pointwise []
  rfl

/-- Packed word `g` over the last 8 chunks, at an index, is its sum of marks. -/
theorem highV_apply (g : BitVec 32) (T : FVec Ideal S2048x512 .f32) (i : Fin 8) (w : Fin 512) :
    highV g T (ix2 i w) = marks g T 1 i w := by
  unfold marks highV
  rw [Fin.sum_univ_eight]
  simp only [addi, chunkV_apply]
  pointwise []
  rfl

/-! ## Reading the bytes -/

open PackedFields (field)

/-- Byte `f` of the mark for packed word `g` is one exactly for bin `4 g + f`. -/
theorem field_mark (q : BitVec 32) (g f : Nat) (hg : g < 6) (hf : f < 4) :
    field 8 f (mark (BitVec.ofNat 32 g) q).toNat = if q.toNat = 4 * g + f then 1 else 0 :=
  PackedFields.field_oneHot (u := .vector) q 2 3 g f (by decide) (by omega) (by omega)

/-- Bytes of a sum of words are the sums of the bytes, while no byte's sum reaches 256. -/
theorem field_sum {ι : Type} (S : Finset ι) (x : ι → BitVec 32)
    (h : ∀ k < 4, ∑ i ∈ S, field 8 k (x i).toNat < 256) (f : Nat) (hf : f < 4) :
    field 8 f (∑ i ∈ S, x i).toNat = ∑ i ∈ S, field 8 f (x i).toNat := by
  classical
  revert f
  induction S using Finset.induction_on with
  | empty => intro f _; simp [field]
  | insert a S ha ih =>
    intro f hf
    have h' : ∀ k < 4, field 8 k (x a).toNat + ∑ i ∈ S, field 8 k (x i).toNat < 256 := fun k hk => by
      have := h k hk; rwa [Finset.sum_insert ha] at this
    have ih' := ih (fun k hk => by have := h' k hk; omega)
    rw [Finset.sum_insert ha, Finset.sum_insert ha, ← ih' f hf]
    exact PackedFields.field_addi (N := 32) (w := 8) (n := 4) rfl _ _
      (fun k hk => by rw [ih' k hk]; exact h' k hk) f hf

/-- Byte `f` of a packed word: how many of its 128 rows fall in bin `4 g + f`. -/
theorem field_marks (g f : Nat) (hg : g < 6) (hf : f < 4) (T : FVec Ideal S2048x512 .f32) (o : Fin 2) (i : Fin 8)
    (w : Fin 512) :
    field 8 f (marks (BitVec.ofNat 32 g) T o i w).toNat
      = ∑ c : Fin 8, ∑ k : Fin 16,
        if (bin (T (ix2 ⟨o.val * 1024 + c.val * 128 + (k.val * 8 + i.val), by omega⟩ w))).toNat = 4 * g + f then 1 else 0 := by
  have hle : ∀ k < 4, ∀ q : BitVec 32, field 8 k (mark (BitVec.ofNat 32 g) q).toNat ≤ 1 := fun k hk q => by
    rw [field_mark q g k hg hk]; split <;> omega
  have h16 : ∀ (x : Fin 16 → BitVec 32), ∀ k < 4,
      ∑ j, field 8 k (mark (BitVec.ofNat 32 g) (x j)).toNat ≤ 16 := fun x k hk => by
    refine (Finset.sum_le_card_nsmul _ _ 1 fun j _ => hle k hk _).trans (by simp)
  have hin : ∀ (x : Fin 16 → BitVec 32), ∀ k < 4,
      field 8 k (∑ j, mark (BitVec.ofNat 32 g) (x j)).toNat = ∑ j, field 8 k (mark (BitVec.ofNat 32 g) (x j)).toNat :=
    fun x k hk => field_sum _ _ (fun k hk => lt_of_le_of_lt (h16 x k hk) (by decide)) k hk
  unfold marks
  rw [field_sum _ _ (fun k hk => ?_) f hf]
  · refine Finset.sum_congr rfl fun c _ => ?_
    rw [hin _ f hf]
    exact Finset.sum_congr rfl fun k _ => field_mark _ g f hg hf
  · refine lt_of_le_of_lt (Finset.sum_le_card_nsmul _ _ 16 fun c _ => ?_) (by simp)
    rw [hin _ k hk]; exact h16 _ k hk

/-- A byte of a packed word is at most 128. -/
theorem field_marks_le (g f : Nat) (hg : g < 6) (hf : f < 4) (T : FVec Ideal S2048x512 .f32) (o : Fin 2) (i : Fin 8)
    (w : Fin 512) : field 8 f (marks (BitVec.ofNat 32 g) T o i w).toNat ≤ 128 := by
  rw [field_marks g f hg hf]
  refine (Finset.sum_le_card_nsmul _ _ 16 fun c _ => ?_).trans (by simp)
  refine (Finset.sum_le_card_nsmul _ _ 1 fun k _ => ?_).trans (by simp)
  split <;> omega

/-- A byte as the kernel reads it: a shift right and a mask. -/
theorem toNat_byte (a : BitVec 32) (f : Nat) (hf : f < 4) :
    (IntOp.andi (IntOp.shrui .vector a (BitVec.ofNat 32 (8 * f))) 255#32).toNat = field 8 f a.toNat := by
  have hn : (BitVec.ofNat 32 (8 * f)).toNat = 8 * f := by rw [BitVec.toNat_ofNat]; exact Nat.mod_eq_of_lt (by omega)
  unfold IntOp.andi IntOp.shrui field
  rw [if_pos (by rw [hn]; omega), BitVec.toNat_and, BitVec.ushiftRight_eq', BitVec.toNat_ushiftRight, hn]
  exact Nat.and_two_pow_sub_one_eq_mod _ 8

/-- A histogram row: a byte of the two packed words, added, then over the 8 rows. -/
def rowV (s : BitVec 32) (A B : IVec S8x512 32) : IVec S512 32 :=
  multiReductionI .add [0] S512
    (addi (andi (shrui A (broadcast S8x512 s)) (broadcast S8x512 255#32))
      (andi (shrui B (broadcast S8x512 s)) (broadcast S8x512 255#32)))
    0#32 reduces_S8x512_S512 rfl

/-- How many of the 2048 rows of a lane fall in bin `b`. -/
def tally (b : Nat) (T : FVec Ideal S2048x512 .f32) (w : Fin 512) : ℕ :=
  ∑ c : Fin 16, ∑ h : Fin 128, if (bin (T (ix2 ⟨c.val * 128 + h.val, by omega⟩ w))).toNat = b then 1 else 0

/-- A sum over the 128 rows of a chunk as 8 residues of 16 groups. -/
theorem sum_chunk (G : Fin 128 → ℕ) :
    ∑ i : Fin 8, ∑ k : Fin 16, G ⟨k.val * 8 + i.val, by omega⟩ = ∑ h : Fin 128, G h := by
  rw [Finset.sum_comm, ← Fintype.sum_prod_type' (f := fun (k : Fin 16) (i : Fin 8) => G ⟨k.val * 8 + i.val, by omega⟩)]
  refine Fintype.sum_equiv (finProdFinEquiv (m := 16) (n := 8)) _ _ fun p => ?_
  refine congrArg G (Fin.ext ?_)
  simp [finProdFinEquiv]; omega

/-- A sum over 16 chunks of 128 rows, in the kernel's order. -/
theorem sum_rows (F : Fin 2048 → ℕ) :
    ∑ i : Fin 8, ((∑ c : Fin 8, ∑ k : Fin 16, F ⟨(0 : Fin 2).val * 1024 + c.val * 128 + (k.val * 8 + i.val), by simp; omega⟩)
        + ∑ c : Fin 8, ∑ k : Fin 16, F ⟨(1 : Fin 2).val * 1024 + c.val * 128 + (k.val * 8 + i.val), by simp; omega⟩)
      = ∑ c : Fin 16, ∑ h : Fin 128, F ⟨c.val * 128 + h.val, by omega⟩ := by
  rw [Finset.sum_add_distrib]
  refine Eq.trans ?_ (Fin.sum_univ_add (a := 8) (b := 8)
    fun c : Fin 16 => ∑ h : Fin 128, F ⟨c.val * 128 + h.val, by omega⟩).symm
  refine congrArg₂ (· + ·) (Finset.sum_comm.trans (Finset.sum_congr rfl fun c _ => ?_))
    (Finset.sum_comm.trans (Finset.sum_congr rfl fun c _ => ?_))
  · rw [← sum_chunk fun h : Fin 128 => F ⟨(Fin.castAdd 8 c).val * 128 + h.val, by simp; omega⟩]
    refine Finset.sum_congr rfl fun i _ => Finset.sum_congr rfl fun k _ => congrArg F (Fin.ext ?_)
    simp
  · rw [← sum_chunk fun h : Fin 128 => F ⟨(Fin.natAdd 8 c).val * 128 + h.val, by simp; omega⟩]
    refine Finset.sum_congr rfl fun i _ => Finset.sum_congr rfl fun k _ => congrArg F (Fin.ext ?_)
    simp; omega

/-- The row of counts of bin `4 g + f`, at a lane, is the tally of that bin. -/
theorem rowV_apply (g f : Nat) (hg : g < 6) (hf : f < 4) (T : FVec Ideal S2048x512 .f32) (w : Fin 512) :
    (rowV (BitVec.ofNat 32 (8 * f)) (lowV (BitVec.ofNat 32 g) T) (highV (BitVec.ofNat 32 g) T) (ix1 w)).toNat
      = tally (4 * g + f) T w := by
  have hr : rowV (BitVec.ofNat 32 (8 * f)) (lowV (BitVec.ofNat 32 g) T) (highV (BitVec.ofNat 32 g) T) (ix1 w)
      = ∑ i : Fin 8, (IntOp.andi (IntOp.shrui .vector (lowV (BitVec.ofNat 32 g) T (ix2 i w)) (BitVec.ofNat 32 (8 * f))) 255#32
        + IntOp.andi (IntOp.shrui .vector (highV (BitVec.ofNat 32 g) T (ix2 i w)) (BitVec.ofNat 32 (8 * f))) 255#32) := by
    pointwise [rowV]
    rw [fold_addi_eq_sum]
    rfl
  have hb : ∀ i : Fin 8, (IntOp.andi (IntOp.shrui .vector (lowV (BitVec.ofNat 32 g) T (ix2 i w)) (BitVec.ofNat 32 (8 * f))) 255#32
        + IntOp.andi (IntOp.shrui .vector (highV (BitVec.ofNat 32 g) T (ix2 i w)) (BitVec.ofNat 32 (8 * f))) 255#32).toNat
      = field 8 f (marks (BitVec.ofNat 32 g) T 0 i w).toNat + field 8 f (marks (BitVec.ofNat 32 g) T 1 i w).toNat := fun i => by
    have h0 := field_marks_le g f hg hf T 0 i w
    have h1 := field_marks_le g f hg hf T 1 i w
    rw [BitVec.toNat_add, toNat_byte _ f hf, toNat_byte _ f hf, lowV_apply, highV_apply]
    exact Nat.mod_eq_of_lt (by omega)
  have hle : ∑ i : Fin 8, (field 8 f (marks (BitVec.ofNat 32 g) T 0 i w).toNat
      + field 8 f (marks (BitVec.ofNat 32 g) T 1 i w).toNat) ≤ 8 * 256 := by
    refine (Finset.sum_le_card_nsmul _ _ 256 fun i _ => ?_).trans (by simp)
    have h0 := field_marks_le g f hg hf T 0 i w
    have h1 := field_marks_le g f hg hf T 1 i w
    omega
  rw [hr, WordSum.toNat_sum]
  · simp only [hb, field_marks g f hg hf]
    exact sum_rows fun r => if (bin (T (ix2 r w))).toNat = 4 * g + f then 1 else 0
  · simp only [hb]
    exact lt_of_le_of_lt hle (by decide)

/-- A lane's tally is small. -/
theorem tally_le (b : Nat) (T : FVec Ideal S2048x512 .f32) (w : Fin 512) : tally b T w ≤ 2048 := by
  unfold tally
  refine (Finset.sum_le_card_nsmul _ _ 128 fun c _ => ?_).trans (by simp)
  refine (Finset.sum_le_card_nsmul _ _ 1 fun h _ => ?_).trans (by simp)
  split <;> omega

end Cert.KernelIdeal.Hand

end
-- ==== Proof.Block.lean ====
/-
  What the kernel's body leaves in its two output blocks at one grid point, as a function of what it read.
-/
module

public import proofs.«01_k».proof.Proof.Count
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Hand

open Cert.KernelIdeal Cert.KernelIdeal.Gen

/-- One row of the histogram block as the kernel stores it: the counts of one bin, as floats. -/
def rowF (s g : BitVec 32) (T : FVec Ideal S2048x512 .f32) : FVec Ideal S1x512 .f32 :=
  sitofp .f32 (shapeCast S1x512 (rowV s (lowV g T) (highV g T)) shapeCasts_S512_S1x512)

/-- The 21 rows of the histogram block. -/
def rowsF (T : FVec Ideal S2048x512 .f32) : FVec Ideal S21x512 .f32 :=
  concatenate S21x512 0 [
    ⟨S1x512, rowF 0#32 0#32 T⟩,
    ⟨S1x512, rowF 8#32 0#32 T⟩,
    ⟨S1x512, rowF 16#32 0#32 T⟩,
    ⟨S1x512, rowF 24#32 0#32 T⟩,
    ⟨S1x512, rowF 0#32 1#32 T⟩,
    ⟨S1x512, rowF 8#32 1#32 T⟩,
    ⟨S1x512, rowF 16#32 1#32 T⟩,
    ⟨S1x512, rowF 24#32 1#32 T⟩,
    ⟨S1x512, rowF 0#32 2#32 T⟩,
    ⟨S1x512, rowF 8#32 2#32 T⟩,
    ⟨S1x512, rowF 16#32 2#32 T⟩,
    ⟨S1x512, rowF 24#32 2#32 T⟩,
    ⟨S1x512, rowF 0#32 3#32 T⟩,
    ⟨S1x512, rowF 8#32 3#32 T⟩,
    ⟨S1x512, rowF 16#32 3#32 T⟩,
    ⟨S1x512, rowF 24#32 3#32 T⟩,
    ⟨S1x512, rowF 0#32 4#32 T⟩,
    ⟨S1x512, rowF 8#32 4#32 T⟩,
    ⟨S1x512, rowF 16#32 4#32 T⟩,
    ⟨S1x512, rowF 24#32 4#32 T⟩,
    ⟨S1x512, rowF 0#32 5#32 T⟩]
    concatenates_S1x512_S1x512_S1x512_S1x512_S1x512_S1x512_S1x512_S1x512_S1x512_S1x512_S1x512_S1x512_S1x512_S1x512_S1x512_S1x512_S1x512_S1x512_S1x512_S1x512_S1x512_S21x512_d0

section
variable (c : Dev nD) (i : grid0.Coords)
  (arg2 : Memref sig .tc .vmem S1x21x128x512 .f32) (harg2 : arg2.IsWhole)
  (arg3 : Memref sig .tc .vmem S1x16x128x512 .f32) (harg3 : arg3.IsWhole)
  (arg4 : Memref sig .tc .vmem S1x21x512 .f32) (harg4 : arg4.IsWhole)
  (arg5 : Memref sig .tc .vmem S1x16x512 .f32) (harg5 : arg5.IsWhole)
  (x0 : Vec Ideal S1x21x128x512 .f32) (x1 : Vec Ideal S1x16x128x512 .f32)
  (xo2 : Vec Ideal S1x21x512 .f32) (xo3 : Vec Ideal S1x16x512 .f32)

/-- A later point of an image adds its rows to the histogram block. -/
theorem out_B_2 (hc : ¬ cond0_0 i) :
    out0_B_2 c i arg2 harg2 arg3 harg3 arg4 harg4 arg5 harg5 hc x0 x1 xo2 xo3
      = k0_pay2 xo2 (rowsF (k0_pay34 (k0_pay6 x1))) := by
  frame_out
  rfl

/-- The first point of an image adds its rows to zeros. -/
theorem out_A_2 (hc : cond0_0 i) :
    out0_A_2 c i arg2 harg2 arg3 harg3 arg4 harg4 arg5 harg5 hc x0 x1
      = k0_pay2 k0_pay3 (rowsF (k0_pay34 (k0_pay6 x1))) := by
  frame_out
  rfl

end

/-- Twenty-one stacked rows, read at a row number. -/
theorem stack21 (r : Fin 21 → FVec Ideal S1x512 .f32) (k : Fin 21) (w : Fin 512) :
    concatenate S21x512 0 [⟨S1x512, r 0⟩, ⟨S1x512, r 1⟩, ⟨S1x512, r 2⟩, ⟨S1x512, r 3⟩, ⟨S1x512, r 4⟩, ⟨S1x512, r 5⟩, ⟨S1x512, r 6⟩, ⟨S1x512, r 7⟩, ⟨S1x512, r 8⟩, ⟨S1x512, r 9⟩, ⟨S1x512, r 10⟩, ⟨S1x512, r 11⟩, ⟨S1x512, r 12⟩, ⟨S1x512, r 13⟩, ⟨S1x512, r 14⟩, ⟨S1x512, r 15⟩, ⟨S1x512, r 16⟩, ⟨S1x512, r 17⟩, ⟨S1x512, r 18⟩, ⟨S1x512, r 19⟩, ⟨S1x512, r 20⟩] concatenates_S1x512_S1x512_S1x512_S1x512_S1x512_S1x512_S1x512_S1x512_S1x512_S1x512_S1x512_S1x512_S1x512_S1x512_S1x512_S1x512_S1x512_S1x512_S1x512_S1x512_S1x512_S21x512_d0 (ix2 k w) = r k (ix2 0 w) := by
  fin_cases k <;> pointwise

/-- A count below `2^31` converts to the float of the same number. -/
theorem sitofp_small (v : BitVec 32) (n : ℕ) (hv : v.toNat = n) (hn : n ≤ 2048) :
    (FloatOps.sitofp .f32 v : Ideal .f32) = ((n : ℕ) : EReal) := by
  have h : v.toInt = (n : ℤ) := by rw [BitVec.toInt_eq_toNat_of_lt (by omega), hv]
  show (((v.toInt : ℤ) : ℝ) : EReal) = _
  rw [h]
  simp

/-- A histogram row at a lane: the tally of its bin. -/
theorem rowF_apply (g f : Nat) (hg : g < 6) (hf : f < 4) (T : FVec Ideal S2048x512 .f32) (i : Fin 1) (w : Fin 512) :
    rowF (BitVec.ofNat 32 (8 * f)) (BitVec.ofNat 32 g) T (ix2 i w) = ((tally (4 * g + f) T w : ℕ) : EReal) := by
  have h : rowF (BitVec.ofNat 32 (8 * f)) (BitVec.ofNat 32 g) T (ix2 i w)
      = (FloatOps.sitofp .f32 (rowV (BitVec.ofNat 32 (8 * f)) (lowV (BitVec.ofNat 32 g) T) (highV (BitVec.ofNat 32 g) T) (ix1 w)) : Ideal .f32) := by
    pointwise [rowF]
  rw [h]
  exact sitofp_small _ _ (rowV_apply g f hg hf T w) (tally_le _ _ _)

/-- The histogram rows at a bin and a lane. -/
theorem rowsF_apply (T : FVec Ideal S2048x512 .f32) (k : Fin 21) (w : Fin 512) :
    rowsF T (ix2 k w) = ((tally k.val T w : ℕ) : EReal) := by
  have h := stack21 (fun k => rowF (BitVec.ofNat 32 (8 * (k.val % 4))) (BitVec.ofNat 32 (k.val / 4)) T) k w
  refine (Eq.trans ?_ h).trans ?_
  · rfl
  · rw [rowF_apply _ _ (by omega) (by omega), show 4 * (k.val / 4) + k.val % 4 = k.val by omega]

/-- The stored histogram block: what was there plus the rows. -/
theorem pay2_apply (xo : FVec Ideal S1x21x512 .f32) (R : FVec Ideal S21x512 .f32) (i : Fin 1) (k : Fin 21) (w : Fin 512) :
    k0_pay2 xo R (ix3 i k w) = xo (ix3 0 k w) + R (ix2 k w) := by
  pointwise [k0_pay2]

/-- The target block flattened to one row per channel and line. -/
theorem flat_apply (x1 : FVec Ideal S1x16x128x512 .f32) (r : Fin 2048) (w : Fin 512) :
    k0_pay34 (k0_pay6 x1) (ix2 r w) = x1 (ix4 0 ⟨r.val / 128, by omega⟩ ⟨r.val % 128, by omega⟩ w) := by
  pointwise [k0_pay34, k0_pay6]

end Cert.KernelIdeal.Hand

end
-- ==== Proof.PBlock.lean ====
/-
  What the kernel's body leaves in the block of channel sums at one grid point.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.KernelIdeal.Hand

open Cert.KernelIdeal Cert.KernelIdeal.Gen

/-- The sum of the exponentials of the 21 logits of one pixel. -/
def expSum (x : Fin 21 → EReal) : EReal := ∑ c : Fin 21, Ideal.exp (x c)

/-- The sum of the exponentials of the background logits of one pixel: the first and the last five. -/
def expBkg (x : Fin 21 → EReal) : EReal :=
  Ideal.exp (x 0) + ∑ c : Fin 5, Ideal.exp (x ⟨16 + c.val, by omega⟩)

/-- The log-probability one pixel pairs with old channel `k`. -/
def logp (x : Fin 21 → EReal) (k : Fin 16) : EReal :=
  if k.val = 0 then Ideal.log (expBkg x) - Ideal.log (expSum x)
  else x ⟨k.val, by omega⟩ - Ideal.log (expSum x)

/-- One pixel's term of the channel sum `k`: its softmax of the targets, times its log-probability. -/
def pterm (x : Fin 21 → EReal) (t : Fin 16 → EReal) (k : Fin 16) : EReal :=
  Ideal.exp (t k) * Ideal.div 1 (∑ c : Fin 16, Ideal.exp (t c)) * logp x k

/-- Where one channel of the logits block starts. -/
theorem sl21 : ∀ k : Fin 21, Shape.Slices S21x128x512 ![k.val, 0, 0] S1x128x512 := by decide
/-- Where one channel of the targets block starts. -/
theorem sl16 : ∀ k : Fin 16, Shape.Slices S16x128x512 ![k.val, 0, 0] S1x128x512 := by decide

/-- One channel of the logits block. -/
def chan21 (X : FVec Ideal S21x128x512 .f32) (k : Fin 21) : FVec Ideal S128x512 .f32 :=
  shapeCast S128x512 (extractStridedSlice S1x128x512 ![k.val, 0, 0] X (sl21 k)) shapeCasts_S1x128x512_S128x512
/-- One channel of the targets block. -/
def chan16 (X : FVec Ideal S16x128x512 .f32) (k : Fin 16) : FVec Ideal S128x512 .f32 :=
  shapeCast S128x512 (extractStridedSlice S1x128x512 ![k.val, 0, 0] X (sl16 k)) shapeCasts_S1x128x512_S128x512

/-- A channel of the logits block at a line and a lane. -/
theorem chan21_apply (X : FVec Ideal S21x128x512 .f32) (k : Fin 21) (h : Fin 128) (w : Fin 512) :
    chan21 X k (ix2 h w) = X (ix3 k h w) := by
  pointwise [chan21]

/-- A channel of the targets block at a line and a lane. -/
theorem chan16_apply (X : FVec Ideal S16x128x512 .f32) (k : Fin 16) (h : Fin 128) (w : Fin 512) :
    chan16 X k (ix2 h w) = X (ix3 k h w) := by
  pointwise [chan16]

/-- The first `n + 1` exponentials of the logits added in order, line by line. -/
def accExp (X : FVec Ideal S21x128x512 .f32) : (n : ℕ) → n < 21 → FVec Ideal S128x512 .f32
  | 0, h => exp (chan21 X ⟨0, h⟩)
  | n + 1, h => addf (accExp X n (by omega)) (exp (chan21 X ⟨n + 1, h⟩))

/-- The logarithm of the sum of the exponentials, as an array. -/
def denV (X : FVec Ideal S21x128x512 .f32) : FVec Ideal S128x512 .f32 := log (accExp X 20 (by omega))

/-- The background's log-probability, as an array. -/
def bkgV (X : FVec Ideal S21x128x512 .f32) : FVec Ideal S128x512 .f32 :=
  subf (log (addf (addf (addf (addf (addf (exp (chan21 X 0)) (exp (chan21 X 16))) (exp (chan21 X 17)))
    (exp (chan21 X 18))) (exp (chan21 X 19))) (exp (chan21 X 20)))) (denV X)

/-- The reciprocal of the sum of the targets' exponentials, as an array. -/
def invV (E : FVec Ideal S16x128x512 .f32) : FVec Ideal S128x512 .f32 :=
  divf (broadcast S128x512 (Scalar.ofBits .f32 0x3F800000#32))
    (multiReduction .add [0] S128x512 E 0x00000000#32 reduces_S16x128x512_S128x512 (.inl rfl) rfl)

/-- One row of the block of channel sums. -/
def sumRow (X : FVec Ideal S21x128x512 .f32) (E : FVec Ideal S16x128x512 .f32) (k : Fin 16)
    (O : FVec Ideal S128x512 .f32) : FVec Ideal S1x512 .f32 :=
  shapeCast S1x512 (multiReduction .add [0] S512 (mulf (mulf (chan16 E k) (invV E)) O) 0x00000000#32
    reduces_S128x512_S512 (.inl rfl) rfl) shapeCasts_S512_S1x512

/-- The sixteen rows of channel sums of one grid point. -/
def sumRows (X : FVec Ideal S21x128x512 .f32) (E : FVec Ideal S16x128x512 .f32) : FVec Ideal S16x512 .f32 :=
  concatenate S16x512 0 [⟨S1x512, sumRow X E 0 (bkgV X)⟩,
    ⟨S1x512, sumRow X E 1 (subf (chan21 X 1) (denV X))⟩,
    ⟨S1x512, sumRow X E 2 (subf (chan21 X 2) (denV X))⟩,
    ⟨S1x512, sumRow X E 3 (subf (chan21 X 3) (denV X))⟩,
    ⟨S1x512, sumRow X E 4 (subf (chan21 X 4) (denV X))⟩,
    ⟨S1x512, sumRow X E 5 (subf (chan21 X 5) (denV X))⟩,
    ⟨S1x512, sumRow X E 6 (subf (chan21 X 6) (denV X))⟩,
    ⟨S1x512, sumRow X E 7 (subf (chan21 X 7) (denV X))⟩,
    ⟨S1x512, sumRow X E 8 (subf (chan21 X 8) (denV X))⟩,
    ⟨S1x512, sumRow X E 9 (subf (chan21 X 9) (denV X))⟩,
    ⟨S1x512, sumRow X E 10 (subf (chan21 X 10) (denV X))⟩,
    ⟨S1x512, sumRow X E 11 (subf (chan21 X 11) (denV X))⟩,
    ⟨S1x512, sumRow X E 12 (subf (chan21 X 12) (denV X))⟩,
    ⟨S1x512, sumRow X E 13 (subf (chan21 X 13) (denV X))⟩,
    ⟨S1x512, sumRow X E 14 (subf (chan21 X 14) (denV X))⟩,
    ⟨S1x512, sumRow X E 15 (subf (chan21 X 15) (denV X))⟩]
    concatenates_S1x512_S1x512_S1x512_S1x512_S1x512_S1x512_S1x512_S1x512_S1x512_S1x512_S1x512_S1x512_S1x512_S1x512_S1x512_S1x512_S16x512_d0

/-- The block of channel sums as stored: what was there plus the rows. -/
def sumBlock (xo : FVec Ideal S1x16x512 .f32) (R : FVec Ideal S16x512 .f32) : FVec Ideal S1x16x512 .f32 :=
  shapeCast S1x16x512 (addf (shapeCast S16x512 xo shapeCasts_S1x16x512_S16x512) R) shapeCasts_S16x512_S1x16x512

section
variable (c : Dev nD) (i : grid0.Coords)
  (arg2 : Memref sig .tc .vmem S1x21x128x512 .f32) (harg2 : arg2.IsWhole)
  (arg3 : Memref sig .tc .vmem S1x16x128x512 .f32) (harg3 : arg3.IsWhole)
  (arg4 : Memref sig .tc .vmem S1x21x512 .f32) (harg4 : arg4.IsWhole)
  (arg5 : Memref sig .tc .vmem S1x16x512 .f32) (harg5 : arg5.IsWhole)
  (x0 : Vec Ideal S1x21x128x512 .f32) (x1 : Vec Ideal S1x16x128x512 .f32)
  (xo2 : Vec Ideal S1x21x512 .f32) (xo3 : Vec Ideal S1x16x512 .f32)

/-- A later point of an image adds its rows to the channel sums. -/
theorem out_B_3 (hc : ¬ cond0_0 i) :
    out0_B_3 c i arg2 harg2 arg3 harg3 arg4 harg4 arg5 harg5 hc x0 x1 xo2 xo3
      = sumBlock xo3 (sumRows (k0_pay5 x0) (exp (k0_pay6 x1))) := by
  frame_out
  rfl

/-- The first point of an image adds its rows to zeros. -/
theorem out_A_3 (hc : cond0_0 i) :
    out0_A_3 c i arg2 harg2 arg3 harg3 arg4 harg4 arg5 harg5 hc x0 x1
      = sumBlock k0_pay4 (sumRows (k0_pay5 x0) (exp (k0_pay6 x1))) := by
  frame_out
  rfl

end

/-- Sixteen stacked rows, read at a row number. -/
theorem stack16 (r : Fin 16 → FVec Ideal S1x512 .f32) (k : Fin 16) (w : Fin 512) :
    concatenate S16x512 0 [⟨S1x512, r 0⟩, ⟨S1x512, r 1⟩, ⟨S1x512, r 2⟩, ⟨S1x512, r 3⟩, ⟨S1x512, r 4⟩, ⟨S1x512, r 5⟩, ⟨S1x512, r 6⟩, ⟨S1x512, r 7⟩, ⟨S1x512, r 8⟩, ⟨S1x512, r 9⟩, ⟨S1x512, r 10⟩, ⟨S1x512, r 11⟩, ⟨S1x512, r 12⟩, ⟨S1x512, r 13⟩, ⟨S1x512, r 14⟩, ⟨S1x512, r 15⟩]
      concatenates_S1x512_S1x512_S1x512_S1x512_S1x512_S1x512_S1x512_S1x512_S1x512_S1x512_S1x512_S1x512_S1x512_S1x512_S1x512_S1x512_S16x512_d0 (ix2 k w) = r k (ix2 0 w) := by
  fin_cases k <;> pointwise

/-- The running sum of exponentials at a line and a lane. -/
theorem accExp_apply (X : FVec Ideal S21x128x512 .f32) (n : ℕ) (hn : n < 21) (h : Fin 128) (w : Fin 512) :
    accExp X n hn (ix2 h w) = ∑ c : Fin (n + 1), Ideal.exp (X (ix3 ⟨c.val, by omega⟩ h w)) := by
  induction n with
  | zero =>
    show Ideal.exp (chan21 X ⟨0, hn⟩ (ix2 h w)) = _
    rw [chan21_apply]; simp
  | succ n ih =>
    show accExp X n (by omega) (ix2 h w) + Ideal.exp (chan21 X ⟨n + 1, hn⟩ (ix2 h w)) = _
    rw [ih, chan21_apply, Fin.sum_univ_castSucc (n := n + 1)]
    rfl

/-- The array of logarithms of the sums of exponentials. -/
theorem denV_apply (X : FVec Ideal S21x128x512 .f32) (h : Fin 128) (w : Fin 512) :
    denV X (ix2 h w) = Ideal.log (expSum (fun c => X (ix3 c h w))) := by
  show Ideal.log (accExp X 20 (by omega) (ix2 h w)) = _
  rw [accExp_apply]
  rfl

/-- The array of background log-probabilities. -/
theorem bkgV_apply (X : FVec Ideal S21x128x512 .f32) (h : Fin 128) (w : Fin 512) :
    bkgV X (ix2 h w) = logp (fun c => X (ix3 c h w)) 0 := by
  have e : ∀ k, exp (chan21 X k) (ix2 h w) = Ideal.exp (X (ix3 k h w)) := fun k => by
    show Ideal.exp (chan21 X k (ix2 h w)) = _
    rw [chan21_apply]
  show Ideal.log (exp (chan21 X 0) (ix2 h w) + exp (chan21 X 16) (ix2 h w) + exp (chan21 X 17) (ix2 h w)
    + exp (chan21 X 18) (ix2 h w) + exp (chan21 X 19) (ix2 h w) + exp (chan21 X 20) (ix2 h w)) - denV X (ix2 h w) = _
  simp only [e]
  rw [denV_apply, logp, if_pos (show (0 : Fin 16).val = 0 from rfl), expBkg, Fin.sum_univ_five]
  simp only [add_assoc]
  rfl

/-- The array of reciprocals of the targets' sums of exponentials. -/
theorem invV_apply (E : FVec Ideal S16x128x512 .f32) (h : Fin 128) (w : Fin 512) :
    invV E (ix2 h w) = Ideal.div 1 (∑ c : Fin 16, E (ix3 c h w)) := by
  pointwise [invV]

/-- A row of channel sums at a lane. -/
theorem sumRow_apply (X : FVec Ideal S21x128x512 .f32) (E : FVec Ideal S16x128x512 .f32) (k : Fin 16)
    (O : FVec Ideal S128x512 .f32) (i : Fin 1) (w : Fin 512) :
    sumRow X E k O (ix2 i w) = ∑ h : Fin 128, E (ix3 k h w) * invV E (ix2 h w) * O (ix2 h w) := by
  have e : sumRow X E k O (ix2 i w) = ∑ h : Fin 128, chan16 E k (ix2 h w) * invV E (ix2 h w) * O (ix2 h w) := by
    pointwise [sumRow]
  simp only [e, chan16_apply]

/-- The rows of channel sums at a channel and a lane. -/
theorem sumRows_apply (X : FVec Ideal S21x128x512 .f32) (T : FVec Ideal S16x128x512 .f32) (k : Fin 16) (w : Fin 512) :
    sumRows X (exp T) (ix2 k w) = ∑ h : Fin 128, pterm (fun c => X (ix3 c h w)) (fun c => T (ix3 c h w)) k := by
  have s := stack16 (fun k => sumRow X (exp T) k
    (if k.val = 0 then bkgV X else subf (chan21 X ⟨k.val, by omega⟩) (denV X))) k w
  refine (Eq.trans ?_ s).trans ?_
  · rfl
  · rw [sumRow_apply]
    refine Finset.sum_congr rfl fun h _ => ?_
    rw [invV_apply, pterm]
    congr 1
    split_ifs with hk
    · obtain rfl : k = 0 := Fin.ext hk
      exact bkgV_apply X h w
    · show chan21 X _ (ix2 h w) - denV X (ix2 h w) = _
      rw [chan21_apply, denV_apply, logp, if_neg hk]

/-- The stored block of channel sums at a channel and a lane. -/
theorem sumBlock_apply (xo : FVec Ideal S1x16x512 .f32) (R : FVec Ideal S16x512 .f32) (i : Fin 1) (k : Fin 16) (w : Fin 512) :
    sumBlock xo R (ix3 i k w) = xo (ix3 0 k w) + R (ix2 k w) := by
  pointwise [sumBlock]

/-- The logits block without its leading axis. -/
theorem pay5_apply (x0 : FVec Ideal S1x21x128x512 .f32) (k : Fin 21) (h : Fin 128) (w : Fin 512) :
    k0_pay5 x0 (ix3 k h w) = x0 (ix4 0 k h w) := by
  pointwise [k0_pay5]

/-- The targets block without its leading axis. -/
theorem pay6_apply (x1 : FVec Ideal S1x16x128x512 .f32) (k : Fin 16) (h : Fin 128) (w : Fin 512) :
    k0_pay6 x1 (ix3 k h w) = x1 (ix4 0 k h w) := by
  pointwise [k0_pay6]

end Cert.KernelIdeal.Hand

end
-- ==== Proof.Fold.lean ====
/-
  What the two result arrays of the first pipeline hold: sums over the four line blocks of an image.
-/
module

public import proofs.«01_k».proof.Proof.Block
public import proofs.«01_k».proof.Proof.PBlock

@[expose] public section

set_option maxRecDepth 16384

noncomputable section

open Idealize.ShloMosaic Idealize.ShloMosaic.TcCoe Idealize.SL.Sem
open scoped BigOperators

namespace Cert.KernelIdeal.Hand

open Cert.KernelIdeal Cert.KernelIdeal.Gen

/-- How often a bin occurs in lane `w` of line block `s` of image `b`. -/
def tallyAt (T : FVec Ideal S8x16x512x512 .f32) (b : Fin 8) (k : ℕ) (s : Fin 4) (w : Fin 512) : ℕ :=
  ∑ c : Fin 16, ∑ h : Fin 128, if (bin (T (ix4 b c ⟨s.val * 128 + h.val, by omega⟩ w))).toNat = k then 1 else 0

/-- The histogram array the first pipeline leaves. -/
def histOf (T : FVec Ideal S8x16x512x512 .f32) : FVec Ideal S8x21x512 .f32 := fun i =>
  ∑ s : Fin 4, ((tallyAt T (i 0) (i 1).val s (i 2) : ℕ) : EReal)

/-- The array of channel sums the first pipeline leaves. -/
def sumsOf (X : FVec Ideal S8x21x512x512 .f32) (T : FVec Ideal S8x16x512x512 .f32) : FVec Ideal S8x16x512 .f32 := fun i =>
  ∑ s : Fin 4, ∑ h : Fin 128, pterm (fun c => X (ix4 (i 0) c ⟨s.val * 128 + h.val, by omega⟩ (i 2)))
    (fun c => T (ix4 (i 0) c ⟨s.val * 128 + h.val, by omega⟩ (i 2))) (i 1)

/-- The block of the windows at each grid point. -/
theorem idx : ∀ t : Fin cfg0.N, win0_0.index t = ![t.val / 4, 0, t.val % 4, 0] ∧ win0_1.index t = ![t.val / 4, 0, t.val % 4, 0]
    ∧ win0_2.index t = ![t.val / 4, 0, 0] ∧ win0_3.index t = ![t.val / 4, 0, 0] :=
  (by decide +kernel : ∀ t : Fin grid0.N, _)

/-- The zero fill of the histogram. -/
theorem pay3_apply (j : S1x21x512.Idx) : k0_pay3 (F := Ideal) j = 0 := by pointwise [k0_pay3]
/-- The zero fill of the channel sums. -/
theorem pay4_apply (j : S1x16x512.Idx) : k0_pay4 (F := Ideal) j = 0 := by pointwise [k0_pay4]

/-- The tally of a block of targets, read at its own indices. -/
theorem tally_flat (x1 : FVec Ideal S1x16x128x512 .f32) (k : ℕ) (w : Fin 512) :
    tally k (k0_pay34 (k0_pay6 x1)) w
      = ∑ c : Fin 16, ∑ h : Fin 128, if (bin (x1 (ix4 0 c h w))).toNat = k then 1 else 0 := by
  unfold tally
  refine Finset.sum_congr rfl fun c _ => Finset.sum_congr rfl fun h _ => ?_
  rw [flat_apply]
  have e1 : (⟨(c.val * 128 + h.val) / 128, by omega⟩ : Fin 16) = c := Fin.ext (by show (c.val * 128 + h.val) / 128 = c.val; omega)
  have e2 : (⟨(c.val * 128 + h.val) % 128, by omega⟩ : Fin 128) = h := Fin.ext (by show (c.val * 128 + h.val) % 128 = h.val; omega)
  rw [e1, e2]

/-- The histogram payload: the entry plus the tally of its bin. -/
theorem hist_pay (xo : FVec Ideal S1x21x512 .f32) (x1 : FVec Ideal S1x16x128x512 .f32) (j : S1x21x512.Idx) :
    k0_pay2 xo (rowsF (k0_pay34 (k0_pay6 x1))) j = xo j
      + ((∑ c : Fin 16, ∑ h : Fin 128, if (bin (x1 (ix4 0 c h (j 2)))).toNat = (j 1).val then 1 else 0 : ℕ) : EReal) := by
  idx_vars j
  rw [pay2_apply, rowsF_apply, tally_flat, Subsingleton.elim j0 0]
  rfl

/-- The channel-sum payload: the entry plus the block's terms. -/
theorem sums_pay (xo : FVec Ideal S1x16x512 .f32) (x0 : FVec Ideal S1x21x128x512 .f32) (x1 : FVec Ideal S1x16x128x512 .f32) (j : S1x16x512.Idx) :
    sumBlock xo (sumRows (k0_pay5 x0) (exp (k0_pay6 x1))) j = xo j
      + ∑ h : Fin 128, pterm (fun c => x0 (ix4 0 c h (j 2))) (fun c => x1 (ix4 0 c h (j 2))) (j 1) := by
  idx_vars j
  rw [sumBlock_apply, sumRows_apply, Subsingleton.elim j0 0]
  simp only [pay5_apply, pay6_apply]

/-- The indicator of a bin depends only on the number read and the bin. -/
theorem mark_congr {a a' : Ideal .f32} {n n' : ℕ} (ha : a = a') (hn : n = n') :
    (if (bin a).toNat = n then 1 else 0 : ℕ) = if (bin a').toNat = n' then 1 else 0 := by
  rw [ha, hn]

/-- A pixel's term depends only on the pixel and the channel. -/
theorem pterm_congr {x x' : Fin 21 → EReal} {t t' : Fin 16 → EReal} {k k' : Fin 16} (hx : ∀ c, x c = x' c)
    (ht : ∀ c, t c = t' c) (hk : k.val = k'.val) : pterm x t k = pterm x' t' k' := by
  rw [funext hx, funext ht, Fin.ext hk]

section
variable (V : (c : Dev nD) → (b : Ref sig .tc) → Buf (Elt Ideal) ((c : Thread nD τ).loc b))

/-- The histogram array after the first pipeline. -/
theorem hist_array (c : Dev nD) : (dat0 V c).arrAt 2 cfg0.N = histOf (V c main_arg1) := by
  refine (dat0 V c).arrAt_eq_of_covers 2 _ (by decide +kernel) fun t hf y => ?_
  blk_simp
  rw [after0_2, Pipeline.eq_sum_fin_of_reset_step_apply_of_flush (fun n h => (outsAt0 V c n h).1) 4 (fun _ => 0)
    (fun p j => ((∑ c' : Fin 16, ∑ h : Fin 128, if (bin ((show FVec Ideal S1x16x128x512 .f32 from iblk0 V c 1 p) (ix4 0 c' h (j 2)))).toNat = (j 1).val then 1 else 0 : ℕ) : EReal))
    (fun t h j => by rw [outsAt0_A V c t h]; dsimp only; rw [out_A_2, hist_pay, pay3_apply])
    (fun t h j => by rw [outsAt0_B V c t h]; dsimp only; rw [out_B_2, hist_pay])
    t ((flush0_2 t).mp hf) _, zero_add]
  unfold histOf tallyAt
  refine Fin.sum_fin_congr fun s => ?_
  have hp := idx ⟨_, Pipeline.run_point_lt_of_flush t ((flush0_2 t).mp hf) s⟩
  refine congrArg (fun n : ℕ => (n : EReal)) (Finset.sum_congr rfl fun x _ => Finset.sum_congr rfl fun h _ => mark_congr ?_ ?_)
  · blk_ext [iblk0, idx t, hp]
  · blk_simp [idx t] <;> try omega

/-- The array of channel sums after the first pipeline. -/
theorem sums_array (c : Dev nD) : (dat0 V c).arrAt 3 cfg0.N = sumsOf (V c main_arg0) (V c main_arg1) := by
  refine (dat0 V c).arrAt_eq_of_covers 3 _ (by decide +kernel) fun t hf y => ?_
  blk_simp
  rw [after0_3, Pipeline.eq_sum_fin_of_reset_step_apply_of_flush (fun n h => (outsAt0 V c n h).2) 4 (fun _ => 0)
    (fun p j => ∑ h : Fin 128, pterm (fun c' => (show FVec Ideal S1x21x128x512 .f32 from iblk0 V c 0 p) (ix4 0 c' h (j 2))) (fun c' => (show FVec Ideal S1x16x128x512 .f32 from iblk0 V c 1 p) (ix4 0 c' h (j 2))) (j 1))
    (fun t h j => by rw [outsAt0_A V c t h]; dsimp only; rw [out_A_3, sums_pay, pay4_apply])
    (fun t h j => by rw [outsAt0_B V c t h]; dsimp only; rw [out_B_3, sums_pay])
    t ((flush0_3 t).mp hf) _, zero_add]
  unfold sumsOf
  refine Fin.sum_fin_congr fun s => ?_
  have hp := idx ⟨_, Pipeline.run_point_lt_of_flush t ((flush0_3 t).mp hf) s⟩
  refine Fin.sum_fin_congr fun h => pterm_congr (fun k => ?_) (fun k => ?_) ?_
  · blk_ext [iblk0, idx t, hp]
  · blk_ext [iblk0, idx t, hp]
  · blk_simp [idx t] <;> try omega

end

end Cert.KernelIdeal.Hand

end
-- ==== Proof.Final.lean ====
/-
  What the second pipeline's body computes from the two arrays, and its result array.
-/
module

public import proofs.«01_k».proof.Proof.Fold

@[expose] public section

set_option maxRecDepth 16384

noncomputable section

open Idealize.ShloMosaic Idealize.ShloMosaic.TcCoe Idealize.SL.Sem
open scoped BigOperators

namespace Cert.KernelIdeal.Hand

open Cert.KernelIdeal Cert.KernelIdeal.Gen

/-- A count with an empty bin replaced by one. -/
def fillOne (s : EReal) : EReal := if s = 0 then 1 else s

/-- The sixteen class counts of an image from its 21 bin counts: the last five join the first. -/
def merge (g : Fin 21 → EReal) (k : Fin 16) : EReal :=
  if k.val = 0 then fillOne (g ⟨k.val, by omega⟩) + ∑ c : Fin 5, fillOne (g ⟨16 + c.val, by omega⟩)
  else fillOne (g ⟨k.val, by omega⟩)

/-- The weight the kernel gives class `k`: the exponential of a tenth of a difference of logarithms. -/
def weightK (g : Fin 21 → EReal) (k : Fin 16) : EReal :=
  Ideal.exp (Ideal.ofBits .f32 0x3DCCCCCD#32 * (Ideal.log (∑ j : Fin 16, merge g j) - Ideal.log (merge g k)))

/-- The loss from the two arrays. -/
def lossK (H : FVec Ideal S8x21x512 .f32) (P : FVec Ideal S8x16x512 .f32) : EReal :=
  Ideal.div (0 - ∑ b : Fin 8, ∑ k : Fin 16, weightK (fun c => ∑ w : Fin 512, H (ix3 b c w)) k * ∑ w : Fin 512, P (ix3 b k w))
    (Ideal.ofBits .f32 0x4A000000#32)

/-- A selection by "the class is the first" as a case split. -/
theorem sel_first (k : Fin 16) (a b : EReal) :
    Scalar.select (IntOp.cmpi .eq (BitVec.ofNat 32 k.val) 0#32) a b = if k.val = 0 then a else b := by
  fin_cases k <;> rfl

/-- The second body's payload is the loss. -/
theorem pay_final (H : FVec Ideal S8x21x512 .f32) (P : FVec Ideal S8x16x512 .f32) (j : S1x1.Idx) :
    k1_pay1 (F := Ideal) H P j = lossK H P := by
  pointwise [k1_pay1]
  simp only [sel_first]
  rfl

/-- The second pipeline's blocks are its whole arrays. -/
theorem idx_final : ∀ t : Fin cfg1.N, win1_0.index t = ![0, 0, 0] ∧ win1_1.index t = ![0, 0, 0] :=
  (by decide +kernel : ∀ t : Fin grid1.N, _)

section
variable (V : (c : Dev nD) → (b : Ref sig .tc) → Buf (Elt Ideal) ((c : Thread nD τ).loc b))

/-- The second pipeline's result array. -/
theorem final_array (c : Dev nD) : (dat1 V c).arrAt 2 cfg1.N
    = fun _ => lossK (V c main_v0_0) (V c main_v0_1) := by
  refine (dat1 V c).arrAt_eq_of_after_last 2 t1_0 (by decide +kernel) _ fun j => ?_
  blk_simp
  rw [after1_2]
  frame_out
  have e0 : iblk1 V c 0 t1_0 = V c main_v0_0 := by
    funext y
    blk_ext [iblk1, idx_final t1_0]
  have e1 : iblk1 V c 1 t1_0 = V c main_v0_1 := by
    funext y
    blk_ext [iblk1, idx_final t1_0]
  rw [e0, e1]
  exact pay_final _ _ _

end

end Cert.KernelIdeal.Hand

end
-- ==== Proof.KernelRun.lean ====
/-
  The kernel's run with its result: the launch over its segments, every final state read at the result array as well as
  at the arguments.
-/
module

public import proofs.«01_k».proof.Proof.Final

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch rule's implicit arguments are found by unifying its conclusion with this one, which takes unfolding
-- plain definitions in a metavariable's type
set_option backward.isDefEq.respectTransparency.types false in
/-- From any memory with zero counters the kernel ends with its result array at the last boundary's contents and its
    arguments as launched. -/
theorem run_raw : θ_run defs (onTc (τ := τ) (main (F := Ideal))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => ⟨h c _ (mem_uc main_v2 (by decide)),
      (h c _ (mem_uc main_arg0 (by decide))).trans (W3_main_arg0 m ρ c),
      (h c _ (mem_uc main_arg1 (by decide))).trans (W3_main_arg1 m ρ c)⟩)

/-- The result array at the last boundary is the loss of the two arguments. -/
theorem result_value (c : Dev nD) : W3 m ρ c (Proc.devRef .tc main_v2)
    = fun _ => lossK (histOf (m ((c : Thread nD τ).loc main_arg1)))
        (sumsOf (m ((c : Thread nD τ).loc main_arg0)) (m ((c : Thread nD τ).loc main_arg1))) := by
  have h1 : W2 m ρ c (Proc.devRef .tc main_v1) = fun _ => lossK (W1 m ρ c main_v0_0) (W1 m ρ c main_v0_1) :=
    (W2_arr m ρ c 2).trans (final_array (V1 m ρ) c)
  have h2 : W1 m ρ c (Proc.devRef .tc main_v0_0) = histOf (m ((c : Thread nD τ).loc main_arg1)) :=
    (W1_arr m ρ c 2).trans (hist_array (V0 m ρ) c)
  have h3 : W1 m ρ c (Proc.devRef .tc main_v0_1) = sumsOf (m ((c : Thread nD τ).loc main_arg0)) (m ((c : Thread nD τ).loc main_arg1)) :=
    (W1_arr m ρ c 3).trans (sums_array (V0 m ρ) c)
  rw [h2, h3] at h1
  after_results
  rw [h1]
  rfl

end Cert.KernelIdeal.Hand

end
-- ==== Proof.Math.lean ====
/-
  Facts about the extended reals that make the kernel's formulas and the reference's equal.
-/
module

public import Idealize.ShloMosaic.Lib.Pointwise

@[expose] public section

noncomputable section

open Idealize.ShloMosaic
open scoped BigOperators

namespace Cert.Hand

/-! ## The literals -/

/-- The word of −∞ is the least extended real. -/
theorem lit_bot : Ideal.ofBits .f32 0xFF800000#32 = ⊥ := by simp [Ideal.ofBits, Ideal.ieee]

/-- The word of +∞ is the greatest extended real. -/
theorem lit_top : Ideal.ofBits .f32 0x7F800000#32 = ⊤ := by simp [Ideal.ofBits, Ideal.ieee]

/-- The word of 20. -/
theorem lit_twenty : Ideal.ofBits .f32 0x41A00000#32 = ((20 : ℝ) : EReal) := by
  simp [Ideal.ofBits, Ideal.ieee, -EReal.coe_mul]; norm_num

/-- The word of the number of pixels. -/
theorem lit_pixels : Ideal.ofBits .f32 0x4A000000#32 = ((2097152 : ℝ) : EReal) := by
  simp [Ideal.ofBits, Ideal.ieee, -EReal.coe_mul]; norm_num

/-- The bin width: a real close to 20/21. -/
def width : ℝ := 15978301 / 16777216

/-- The word of the bin width. -/
theorem lit_width : Ideal.ofBits .f32 0x3F73CF3D#32 = ((width : ℝ) : EReal) := by
  simp [Ideal.ofBits, Ideal.ieee, -EReal.coe_mul, width]; norm_num

/-- The exponent of the weights: a real close to a tenth. -/
def tenth : ℝ := 13421773 / 134217728

/-- The word of a tenth. -/
theorem lit_tenth : Ideal.ofBits .f32 0x3DCCCCCD#32 = ((tenth : ℝ) : EReal) := by
  simp [Ideal.ofBits, Ideal.ieee, -EReal.coe_mul, tenth]; norm_num

/-! ## Sums and real factors -/

/-- A nonnegative real factor moves into a finite sum. -/
theorem mul_sum_real {ι : Type} (S : Finset ι) (f : ι → EReal) (r : ℝ) (hr : 0 ≤ r) :
    (r : EReal) * ∑ i ∈ S, f i = ∑ i ∈ S, (r : EReal) * f i := by
  classical
  induction S using Finset.induction_on with
  | empty => simp
  | insert a S ha ih =>
    rw [Finset.sum_insert ha, Finset.sum_insert ha,
      EReal.left_distrib_of_nonneg_of_ne_top (EReal.coe_nonneg.2 hr) (EReal.coe_ne_top r), ih]

/-- A sum of reals, read in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Negation passes through a division by a nonzero real. -/
theorem neg_div_real (x : EReal) (r : ℝ) (hr : r ≠ 0) : -Ideal.div x (r : EReal) = Ideal.div (0 - x) (r : EReal) := by
  rw [Ideal.div_coe hr, Ideal.div_coe hr, zero_sub, EReal.neg_mul]

/-! ## Exponentials and logarithms -/

/-- Exponentials are not negative. -/
theorem exp_nonneg (x : EReal) : 0 ≤ Ideal.exp x := by
  induction x with
  | bot => simp
  | top => simp
  | coe r => rw [Ideal.exp_coe]; exact EReal.coe_nonneg.2 (Real.exp_pos r).le

/-- Subtracting a real inside an exponential is a real factor outside it. -/
theorem exp_sub_real (x : EReal) (r : ℝ) : Ideal.exp (x - (r : EReal)) = ((Real.exp (-r) : ℝ) : EReal) * Ideal.exp x := by
  induction x with
  | bot => simp [EReal.bot_sub]
  | top =>
    rw [EReal.top_sub_coe, Ideal.exp_top, EReal.coe_mul_top_of_pos (Real.exp_pos _)]
  | coe s =>
    rw [← EReal.coe_sub, Ideal.exp_coe, Ideal.exp_coe, ← EReal.coe_mul, ← Real.exp_add]
    congr 2
    ring

/-- Adding back the real taken out under a logarithm. -/
theorem log_mul_exp (S : EReal) (hS : 0 ≤ S) (r : ℝ) :
    Ideal.log (((Real.exp (-r) : ℝ) : EReal) * S) + (r : EReal) = Ideal.log S := by
  induction S with
  | bot => simp at hS
  | top => rw [EReal.coe_mul_top_of_pos (Real.exp_pos _), Ideal.log_top, EReal.top_add_coe]
  | coe s =>
    have hs : 0 ≤ s := EReal.coe_nonneg.1 hS
    rw [← EReal.coe_mul, Ideal.log_coe, Ideal.log_coe]
    rcases hs.eq_or_lt with h | h
    · subst h
      rw [if_pos (by simp), if_pos le_rfl, EReal.bot_add]
    · rw [if_neg (not_le.2 (mul_pos (Real.exp_pos _) h)), if_neg (not_le.2 h), ← EReal.coe_add,
        Real.log_mul (Real.exp_pos _).ne' h.ne', Real.log_exp]
      congr 1
      ring

/-- The logarithm of a sum of exponentials does not depend on the real it is computed about. -/
theorem lse_about {ι : Type} (S : Finset ι) (x : ι → EReal) (r : ℝ) :
    Ideal.log (∑ c ∈ S, Ideal.exp (x c - (r : EReal))) + (r : EReal) = Ideal.log (∑ c ∈ S, Ideal.exp (x c)) := by
  simp only [exp_sub_real]
  rw [← mul_sum_real S _ _ (Real.exp_pos _).le]
  exact log_mul_exp _ (Finset.sum_nonneg fun c _ => exp_nonneg _) r

/-- An exponential below the greatest extended real is a real. -/
theorem exp_real (x : EReal) (hx : x ≠ ⊤) : ∃ a : ℝ, 0 ≤ a ∧ (x ≠ ⊥ → 0 < a) ∧ Ideal.exp x = (a : EReal) := by
  induction x with
  | bot => exact ⟨0, le_rfl, fun h => absurd rfl h, by simp⟩
  | top => exact absurd rfl hx
  | coe r => exact ⟨Real.exp r, (Real.exp_pos r).le, fun _ => Real.exp_pos r, rfl⟩

/-- The softmax about a real is the exponential times the reciprocal of the plain sum, where no channel is infinite upwards
    and one is a real. -/
theorem softmax_about {n : ℕ} (t : Fin n → EReal) (r : ℝ) (ht : ∀ c, t c ≠ ⊤) (c0 : Fin n) (h0 : t c0 ≠ ⊥) (k : Fin n) :
    Ideal.div (Ideal.exp (t k - (r : EReal))) (∑ c, Ideal.exp (t c - (r : EReal)))
      = Ideal.exp (t k) * Ideal.div 1 (∑ c, Ideal.exp (t c)) := by
  choose a ha0 hap ha using fun c => exp_real (t c) (ht c)
  have hS : 0 < ∑ c, a c :=
    Finset.sum_pos' (fun c _ => ha0 c) ⟨c0, Finset.mem_univ _, hap c0 h0⟩
  have he := Real.exp_pos (-r)
  simp only [exp_sub_real, ha]
  rw [← mul_sum_real _ _ _ he.le, ← coe_sum, ← EReal.coe_mul, ← EReal.coe_mul,
    Ideal.div_coe (mul_pos he hS).ne', Ideal.div_coe hS.ne', one_mul, ← EReal.coe_mul, ← EReal.coe_mul]
  congr 1
  field_simp

/-- A power of a quotient of positive reals by a difference of logarithms. -/
theorem pow_quot (p q e : ℝ) (hp : 0 < p) (hq : 0 < q) :
    Ideal.pow (Ideal.div (p : EReal) (q : EReal)) (e : EReal) = ((Real.exp (e * (Real.log p - Real.log q)) : ℝ) : EReal) := by
  rw [Ideal.div_coe hq.ne', ← EReal.coe_mul, Ideal.pow_coe_coe]
  congr 1
  show (p * (1 / q)) ^ e = _
  rw [mul_one_div, Real.rpow_def_of_pos (div_pos hp hq), Real.log_div hp.ne' hq.ne', mul_comm]

/-- The same weight computed by the logarithms. -/
theorem exp_logs (p q e : ℝ) (hp : 0 < p) (hq : 0 < q) :
    Ideal.exp ((e : EReal) * (Ideal.log (p : EReal) - Ideal.log (q : EReal)))
      = ((Real.exp (e * (Real.log p - Real.log q)) : ℝ) : EReal) := by
  rw [Ideal.log_coe, Ideal.log_coe, if_neg (not_le.2 hp), if_neg (not_le.2 hq), ← EReal.coe_sub, ← EReal.coe_mul, Ideal.exp_coe]

end Cert.Hand

end
-- ==== Proof.RefStages.lean ====
/-
  The reference's result, cut into named stages.
-/
module

public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Value

/-- The targets times one. -/
def scaled (T : FVec Ideal S8x16x512x512 .f32) : FVec Ideal S8x16x512x512 .f32 :=
  mulf T (broadcastInDim S8x16x512x512 ![] bcast_S_S8x16x512x512 (constant S_ .f32 0x3F800000#32))

/-- A channel maximum kept where it is finite, zero elsewhere. -/
def guard (M : FVec Ideal S8x512x512 .f32) : FVec Ideal S8x1x512x512 .f32 :=
  select (cmpf .olt (Host.absf (broadcastInDim S8x1x512x512 ![0, 2, 3] bcast_S8x512x512_S8x1x512x512_0_2_3 M))
      (broadcastInDim S8x1x512x512 ![] bcast_S_S8x1x512x512 (constant S_ .f32 0x7F800000#32)))
    (broadcastInDim S8x1x512x512 ![0, 2, 3] bcast_S8x512x512_S8x1x512x512_0_2_3 M)
    (broadcastInDim S8x1x512x512 ![] bcast_S_S8x1x512x512 (id (constant S_ .f32 0x00000000#32)))

/-- The channel maximum of the logits. -/
def max21 (X : FVec Ideal S8x21x512x512 .f32) : FVec Ideal S8x512x512 .f32 :=
  Host.reduce FloatOps.maximumf X (constant S_ .f32 0xFF800000#32) reducesTo_S8x21x512x512_S8x512x512_d1 h_S_

/-- The channel maximum of the background logits. -/
def max6 (Y : FVec Ideal S8x6x512x512 .f32) : FVec Ideal S8x512x512 .f32 :=
  Host.reduce FloatOps.maximumf Y (constant S_ .f32 0xFF800000#32) reducesTo_S8x6x512x512_S8x512x512_d1 h_S_

/-- The channel maximum of the targets. -/
def max16 (T : FVec Ideal S8x16x512x512 .f32) : FVec Ideal S8x512x512 .f32 :=
  Host.reduce FloatOps.maximumf T (constant S_ .f32 0xFF800000#32) reducesTo_S8x16x512x512_S8x512x512_d1 h_S_

/-- The channel maximum of the logits, guarded. -/
def top21 (X : FVec Ideal S8x21x512x512 .f32) : FVec Ideal S8x1x512x512 .f32 :=
  guard (max21 X)

/-- The logarithm of the sum of the exponentials of the 21 logits. -/
def lse21 (X : FVec Ideal S8x21x512x512 .f32) : FVec Ideal S8x512x512 .f32 :=
  addf (Host.log (Host.reduceAdd (Host.exp (subf X (broadcastInDim S8x21x512x512 ![0, 1, 2, 3]
      bcast_S8x1x512x512_S8x21x512x512_0_1_2_3 (top21 X)))) (constant S_ .f32 0x00000000#32)
      reducesTo_S8x21x512x512_S8x512x512_d1 h_S_))
    (shapeCast S8x512x512 (top21 X) shapeCasts_S8x1x512x512_S8x512x512)

/-- The channel numbers of the background: the first and the last five. -/
def bkgIdx : IVec S6 32 :=
  fn_main_v22 (F := Ideal) (constantI S1 32 0#32)
    (addi (broadcastInDim S5 ![] bcast_S_S5 (constantI S_ 32 16#32)) (iotaInDim S5 32 0))

/-- The background channels of the logits. -/
def bkg6 (X : FVec Ideal S8x21x512x512 .f32) : FVec Ideal S8x6x512x512 .f32 :=
  Host.gather gather_S8x21x512x512_S6x1_S8x6x512x512_023_1_n_n_1_1_81512512 X
    (broadcastInDim S6x1 ![0] bcast_S6_S6x1_0
      (select (cmpi .slt bkgIdx (broadcastInDim S6 ![] bcast_S_S6 (constantI S_ 32 0#32)))
        (addi bkgIdx (broadcastInDim S6 ![] bcast_S_S6 (constantI S_ 32 21#32))) bkgIdx))

/-- The channel maximum of the background, guarded. -/
def top6 (Y : FVec Ideal S8x6x512x512 .f32) : FVec Ideal S8x1x512x512 .f32 :=
  guard (max6 Y)

/-- The logarithm of the sum of the exponentials of the six background logits. -/
def lse6 (Y : FVec Ideal S8x6x512x512 .f32) : FVec Ideal S8x512x512 .f32 :=
  addf (Host.log (Host.reduceAdd (Host.exp (subf Y (broadcastInDim S8x6x512x512 ![0, 1, 2, 3]
      bcast_S8x1x512x512_S8x6x512x512_0_1_2_3 (top6 Y)))) (constant S_ .f32 0x00000000#32)
      reducesTo_S8x6x512x512_S8x512x512_d1 h_S_))
    (shapeCast S8x512x512 (top6 Y) shapeCasts_S8x1x512x512_S8x512x512)

/-- The background's log-probability. -/
def outBkg (X : FVec Ideal S8x21x512x512 .f32) : FVec Ideal S8x512x512 .f32 := subf (lse6 (bkg6 X)) (lse21 X)

/-- The other old channels' log-probabilities. -/
def outNo (X : FVec Ideal S8x21x512x512 .f32) : FVec Ideal S8x15x512x512 .f32 :=
  subf (extractStridedSlice S8x15x512x512 ![0, 1, 0, 0] X slices_S8x21x512x512_S8x15x512x512_0_1_0_0)
    (broadcastInDim S8x15x512x512 ![0, 1, 2, 3] bcast_S8x1x512x512_S8x15x512x512_0_1_2_3
      (broadcastInDim S8x1x512x512 ![0, 2, 3] bcast_S8x512x512_S8x1x512x512_0_2_3 (lse21 X)))

/-- The targets of an image in one row. -/
def rowT (T : FVec Ideal S8x16x512x512 .f32) : FVec Ideal S8x4194304 .f32 :=
  shapeCast S8x4194304 T shapeCasts_S8x16x512x512_S8x4194304

/-- The bin of every target, clipped into range. -/
def binR (Y : FVec Ideal S8x4194304 .f32) : IVec S8x4194304 32 :=
  minsi (broadcastInDim S8x4194304 ![] bcast_S_S8x4194304 (id (constantI S_ 32 20#32)))
    (maxsi (broadcastInDim S8x4194304 ![] bcast_S_S8x4194304 (id (constantI S_ 32 0#32)))
      (fptosi 32 (Host.floor (Host.divf Y (broadcastInDim S8x4194304 ![] bcast_S_S8x4194304 (constant S_ .f32 0x3F73CF3D#32))))))

/-- Whether a target lies within the histogram's range. -/
def validR (Y : FVec Ideal S8x4194304 .f32) : IVec S8x4194304 1 :=
  andi (cmpf .oge Y (broadcastInDim S8x4194304 ![] bcast_S_S8x4194304 (constant S_ .f32 0x00000000#32)))
    (cmpf .ole Y (broadcastInDim S8x4194304 ![] bcast_S_S8x4194304 (constant S_ .f32 0x41A00000#32)))

/-- The image number of every target. -/
def imgR : IVec S8x4194304 32 :=
  broadcastInDim S8x4194304 ![0, 1] bcast_S8x1_S8x4194304_0_1 (broadcastInDim S8x1 ![0] bcast_S8_S8x1_0 (iotaInDim S8 32 0))

/-- A flat index with a negative one counted from the end. -/
def wrapR (q : IVec S33554432 32) (n : BitVec 32) : IVec S33554432 32 :=
  select (cmpi .slt q (broadcastInDim S33554432 ![] bcast_S_S33554432 (constantI S_ 32 0#32)))
    (addi q (broadcastInDim S33554432 ![] bcast_S_S33554432 (constantI S_ 32 n))) q

/-- The image numbers, flat. -/
def imgF : IVec S33554432 32 := shapeCast S33554432 imgR shapeCasts_S8x4194304_S33554432
/-- The bins, flat. -/
def binF (Y : FVec Ideal S8x4194304 .f32) : IVec S33554432 32 := shapeCast S33554432 (binR Y) shapeCasts_S8x4194304_S33554432
/-- The weights of the targets in the histogram, flat: one within range, zero outside. -/
def validF (Y : FVec Ideal S8x4194304 .f32) : FVec Ideal S33554432 .f32 :=
  uitofp .f32 (shapeCast S33554432 (validR Y) shapeCasts_S8x4194304_S33554432)

/-- Where each target adds in the histogram. -/
def places (Y : FVec Ideal S8x4194304 .f32) : IVec S33554432x2 32 :=
  fn_main_v75 (F := Ideal)
    (broadcastInDim S33554432x1 ![0] bcast_S33554432_S33554432x1_0 (wrapR imgF 8#32))
    (broadcastInDim S33554432x1 ![0] bcast_S33554432_S33554432x1_0 (wrapR (binF Y) 21#32))

/-- The histogram of every image. -/
def histR (Y : FVec Ideal S8x4194304 .f32) : FVec Ideal S8x21 .f32 :=
  Host.scatterAdd scatter_S8x21_S33554432x2_S33554432_n_01_01_1
    (broadcastInDim S8x21 ![] bcast_S_S8x21 (constant S_ .f32 0x00000000#32)) (places Y) (validF Y)

/-- The histogram with empty bins replaced by one. -/
def filledR (H : FVec Ideal S8x21 .f32) : FVec Ideal S8x21 .f32 :=
  select (cmpf .oeq H (broadcastInDim S8x21 ![] bcast_S_S8x21 (constant S_ .f32 0x00000000#32)))
    (broadcastInDim S8x21 ![] bcast_S_S8x21 (id (constant S_ .f32 0x3F800000#32))) H

/-- The class counts: the last five bins join the first. -/
def mergedR (G : FVec Ideal S8x21 .f32) : FVec Ideal S8x16 .f32 :=
  Host.scatter scatter_S8x16_S1_S8_0_1_1_0 FloatOps.addf
    (extractStridedSlice S8x16 ![0, 0] G slices_S8x21_S8x16_0_0)
    (broadcastInDim S1 ![] bcast_S_S1 (constantI S_ 32 0#32))
    (Host.reduceAdd (extractStridedSlice S8x5 ![0, 16] G slices_S8x21_S8x5_0_16) (constant S_ .f32 0x00000000#32) reducesTo_S8x5_S8_d1 h_S_)

/-- The class weights: a power of the inverse frequencies. -/
def weightsR (M : FVec Ideal S8x16 .f32) : FVec Ideal S8x16 .f32 :=
  Host.powf (Host.divf (broadcastInDim S8x16 ![0, 1] bcast_S8x1_S8x16_0_1 (broadcastInDim S8x1 ![0] bcast_S8_S8x1_0
      (Host.reduceAdd M (constant S_ .f32 0x00000000#32) reducesTo_S8x16_S8_d1 h_S_))) M)
    (broadcastInDim S8x16 ![] bcast_S_S8x16 (constant S_ .f32 0x3DCCCCCD#32))

/-- The exponentials of the targets less a number given for each pixel. -/
def shiftBy (T : FVec Ideal S8x16x512x512 .f32) (M : FVec Ideal S8x512x512 .f32) : FVec Ideal S8x16x512x512 .f32 :=
  Host.exp (subf T (broadcastInDim S8x16x512x512 ![0, 1, 2, 3] bcast_S8x1x512x512_S8x16x512x512_0_1_2_3
    (broadcastInDim S8x1x512x512 ![0, 2, 3] bcast_S8x512x512_S8x1x512x512_0_2_3
      (maximumf (broadcastInDim S8x512x512 ![] bcast_S_S8x512x512 (constant S_ .f32 0xFF800000#32)) M))))

/-- The exponentials of the targets less their channel maximum. -/
def shiftedR (T : FVec Ideal S8x16x512x512 .f32) : FVec Ideal S8x16x512x512 .f32 := shiftBy T (max16 T)

/-- The softmax of the targets. -/
def softR (T : FVec Ideal S8x16x512x512 .f32) : FVec Ideal S8x16x512x512 .f32 :=
  Host.divf (shiftedR T) (broadcastInDim S8x16x512x512 ![0, 1, 2, 3] bcast_S8x1x512x512_S8x16x512x512_0_1_2_3
    (broadcastInDim S8x1x512x512 ![0, 2, 3] bcast_S8x512x512_S8x1x512x512_0_2_3
      (Host.reduceAdd (shiftedR T) (constant S_ .f32 0x00000000#32) reducesTo_S8x16x512x512_S8x512x512_d1 h_S_)))

/-- The weighted softmax. -/
def labelsR (W : FVec Ideal S8x16 .f32) (S : FVec Ideal S8x16x512x512 .f32) : FVec Ideal S8x16x512x512 .f32 :=
  mulf (broadcastInDim S8x16x512x512 ![0, 1, 2, 3] bcast_S8x16x1x1_S8x16x512x512_0_1_2_3
    (broadcastInDim S8x16x1x1 ![0, 1] bcast_S8x16_S8x16x1x1_0_1 W)) S

/-- The loss of every pixel. -/
def pixelR (L : FVec Ideal S8x16x512x512 .f32) (B : FVec Ideal S8x512x512 .f32) (N : FVec Ideal S8x15x512x512 .f32) :
    FVec Ideal S8x512x512 .f32 :=
  addf (mulf (shapeCast S8x512x512 (extractStridedSlice S8x1x512x512 ![0, 0, 0, 0] L slices_S8x16x512x512_S8x1x512x512_0_0_0_0)
      shapeCasts_S8x1x512x512_S8x512x512) B)
    (Host.reduceAdd (mulf (extractStridedSlice S8x15x512x512 ![0, 1, 0, 0] L slices_S8x16x512x512_S8x15x512x512_0_1_0_0) N)
      (constant S_ .f32 0x00000000#32) reducesTo_S8x15x512x512_S8x512x512_d1 h_S_)

/-- The mean over all pixels, negated. -/
def meanR (Q : FVec Ideal S8x512x512 .f32) : FVec Ideal S_ .f32 :=
  Host.negf (Host.divf (Host.reduceAdd Q (constant S_ .f32 0x00000000#32) reducesTo_S8x512x512_S_d0_1_2 h_S_)
    (constant S_ .f32 0x4A000000#32))

/-- The reference's result as a composition of the stages. -/
theorem result_stages (m : (ℓ : Loc nD τ sig) → Buf (Elt Ideal) ℓ) (c : Dev nD) :
    res_main_v114 (F := Ideal) m c
      = (fun (X : FVec Ideal S8x21x512x512 .f32) (T : FVec Ideal S8x16x512x512 .f32) =>
          meanR (pixelR (labelsR (weightsR (mergedR (filledR (histR (rowT (scaled T)))))) (softR (scaled T))) (outBkg X) (outNo X)))
        (m ((c.tc : Thread nD τ).loc main_arg0)) (m ((c.tc : Thread nD τ).loc main_arg1)) := by
  unfold res_main_v114
  rfl

end Cert.ReferenceIdeal.Hand

end
-- ==== Proof.RefMax.lean ====
/-
  A maximum over the channel axis, read at an index.
-/
module

public import Idealize.ShloMosaic.Lib.Pointwise

@[expose] public section

noncomputable section

open Idealize.ShloMosaic

namespace Cert.ReferenceIdeal.Hand

/-- The host's maximum over the second of four axes, at an index: the fold of `max` along that axis. -/
theorem max_axis1 {n0 n1 n2 n3 : ℕ} {u : Shape} (X : FVec Ideal ⟨4, ![n0, n1, n2, n3]⟩ .f32) (v : FVec Ideal u .f32)
    (h : (⟨4, ![n0, n1, n2, n3]⟩ : Shape).ReducesTo [1] ⟨3, ![n0, n2, n3]⟩) (hu : 0 < u.numel)
    (b : Fin n0) (y : Fin n2) (z : Fin n3) :
    Host.reduce FloatOps.maximumf X v h hu (ix3 b y z)
      = Finset.univ.fold max (v (Shape.Idx.first hu)) fun c : Fin n1 => X (ix4 b c y z) := by
  simp only [pointwise]

end Cert.ReferenceIdeal.Hand

end
-- ==== Proof.RefIndex.lean ====
/-
  The reference's gather and two scatters, read at an index, at any sizes.
-/
module

public import Idealize.ShloMosaic.Lib.Pointwise
public import Idealize.ShloMosaic.Lib.Routing.OpsPair

@[expose] public section

noncomputable section

open Idealize.ShloMosaic
open scoped BigOperators

namespace Cert.ReferenceIdeal.Hand

section
variable {n0 n1 n2 n3 k : ℕ}

/-- A gather of whole channels: the second axis of the operand is read at the listed channel numbers. -/
abbrev chanDims (wf : GatherDims.WF ⟨4, ![n0, n1, n2, n3]⟩ ⟨2, ![k, 1]⟩ ⟨4, ![n0, k, n2, n3]⟩ [0, 2, 3] [1] [] [1] [] 1 ![n0, 1, n2, n3]) :
    GatherDims ⟨4, ![n0, n1, n2, n3]⟩ ⟨2, ![k, 1]⟩ ⟨4, ![n0, k, n2, n3]⟩ where
  offsetDims := [0, 2, 3]
  collapsedSliceDims := [1]
  operandBatchingDims := []
  startIndicesBatchingDims := []
  startIndexMap := [1]
  indexVectorDim := 1
  sliceSizes := ![n0, 1, n2, n3]
  wf := wf

/-- A gathered channel is the operand's channel of the listed number. -/
theorem gather_chan (wf) (X : FVec Ideal ⟨4, ![n0, n1, n2, n3]⟩ .f32) (idx : IVec ⟨2, ![k, 1]⟩ 32)
    (b : Fin n0) (c : Fin k) (y : Fin n2) (z : Fin n3) (q : Fin n1)
    (hq : (idx (ix2 c 0)).toInt = q.val) :
    Host.gather (chanDims wf) X idx (ix4 b c y z) = X (ix4 b q y z) := by
  unfold Host.gather
  congr 1
  funext a
  refine Fin.ext ?_
  show (chanDims wf).start (ix4 b c y z) idx a + (chanDims wf).batchCoord (ix4 b c y z) a
    + (chanDims wf).offCoord (ix4 b c y z) a = _
  rw [GatherDims.batchCoord_eq_zero _ _ _ List.not_mem_nil]
  have hs : ∀ a : Fin 4, a.val ≠ 1 → (chanDims wf).start (ix4 b c y z) idx a = 0 := fun a ha => by
    unfold GatherDims.start
    rw [dif_neg (fun h => ha (congrArg Fin.val (List.mem_singleton.1 h)))]
  match a with
  | ⟨0, _⟩ => rw [hs _ (by decide : (0 : ℕ) ≠ 1)]; exact (Nat.zero_add _)
  | ⟨2, _⟩ => rw [hs _ (by decide : (2 : ℕ) ≠ 1)]; exact (Nat.zero_add _)
  | ⟨3, _⟩ => rw [hs _ (by decide : (3 : ℕ) ≠ 1)]; exact (Nat.zero_add _)
  | ⟨1, _⟩ =>
    rw [GatherDims.offCoord_eq_zero _ _ _ (fun h => ((GatherDims.mem_sKept _ _).mp h).1 (List.mem_singleton.mpr rfl))]
    have hm : (1 : Fin 4) ∈ (chanDims wf).startIndexMap := List.mem_singleton.mpr rfl
    show (chanDims wf).start (ix4 b c y z) idx (1 : Fin 4) + 0 + 0 = q.val
    unfold GatherDims.start
    rw [dif_pos hm]
    have hsi : (chanDims wf).siIdx (ix4 b c y z) ⟨List.idxOf (1 : Fin 4) (chanDims wf).startIndexMap,
        List.idxOf_lt_length_iff.2 (List.mem_singleton.mpr rfl)⟩ = ix2 c 0 := by
      funext e; refine Fin.ext ?_
      match e with
      | ⟨0, _⟩ => rfl
      | ⟨1, _⟩ => rfl
    show min (idx ((chanDims wf).siIdx (ix4 b c y z) _)).toInt.toNat (n1 - 1) + 0 + 0 = q.val
    rw [hsi, hq]
    have := q.isLt
    omega

end

section
variable {R C N : ℕ}

/-- A scatter of single elements into a table: each update has its row and column listed. -/
abbrev cellDims (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

/-- An update lands in a cell exactly when its listed row and column are the cell's. -/
theorem lands_cell (wf) (idx : IVec ⟨2, ![N, 2]⟩ 32) (n : Fin N) (r : Fin R) (c : Fin C) :
    (cellDims wf).resultIdx? (ix1 n) idx = some (ix2 r c)
      ↔ (idx (ix2 n 0)).toInt = r.val ∧ (idx (ix2 n 1)).toInt = c.val := by
  have hw : ∀ a : Fin 2, (cellDims wf).window (ix1 n) a = 0 := fun a => by
    unfold ScatterDims.window
    rw [dif_neg fun h => (of_decide_eq_true (List.mem_filter.1 h).2) (by fin_cases a <;> simp)]
  have hm : ∀ q : Fin 2, q ∈ (cellDims wf).scatterDimsToOperandDims := fun q => by fin_cases q <;> simp
  have h0 : (cellDims wf).start (ix1 n) idx 0 = (idx (ix2 n 0)).toInt := by
    unfold ScatterDims.start
    rw [dif_pos (hm 0)]
    refine congrArg (fun i => (idx i).toInt) (funext fun e => Fin.ext ?_)
    match e with
    | ⟨0, _⟩ => rfl
    | ⟨1, _⟩ => rfl
  have h1 : (cellDims wf).start (ix1 n) idx 1 = (idx (ix2 n 1)).toInt := by
    unfold ScatterDims.start
    rw [dif_pos (hm 1)]
    refine congrArg (fun i => (idx i).toInt) (funext fun e => Fin.ext ?_)
    match e with
    | ⟨0, _⟩ => rfl
    | ⟨1, _⟩ => rfl
  refine (Routing.resultIdx?_ix2 (cellDims wf) (ix1 n) idx r c).trans ?_
  rw [hw, hw, h0, h1]
  simp

/-- A scattered sum of single elements: the operand's element plus the updates listed for it. -/
theorem scatter_cell (wf) (x : FVec Ideal ⟨2, ![R, C]⟩ .f32) (idx : IVec ⟨2, ![N, 2]⟩ 32) (u : FVec Ideal ⟨1, ![N]⟩ .f32)
    (r : Fin R) (c : Fin C) :
    Host.scatterAdd (cellDims wf) x idx u (ix2 r c)
      = x (ix2 r c) + ∑ n : Fin N, if (idx (ix2 n 0)).toInt = r.val ∧ (idx (ix2 n 1)).toInt = c.val then u (ix1 n) else 0 := by
  show x (ix2 r c) + ∑ j ∈ Finset.univ.filter (fun j => (cellDims wf).resultIdx? j idx = some (ix2 r c)), u j = _
  rw [Finset.sum_filter, sum_idx1]
  simp only [lands_cell]

/-- A scatter of one column into a table, its number listed. -/
abbrev colDims (wf : ScatterDims.WF ⟨2, ![R, C]⟩ ⟨1, ![1]⟩ ⟨1, ![R]⟩ [0] [1] [1] 0) :
    ScatterDims ⟨2, ![R, C]⟩ ⟨1, ![1]⟩ ⟨1, ![R]⟩ where
  updateWindowDims := [0]
  insertedWindowDims := [1]
  scatterDimsToOperandDims := [1]
  indexVectorDim := 0
  wf := wf

/-- An element of the column lands in a cell exactly when it is the cell's row and the column is the listed one. -/
theorem lands_col (wf) (idx : IVec ⟨1, ![1]⟩ 32) (n : Fin R) (r : Fin R) (c : Fin C) :
    (colDims wf).resultIdx? (ix1 n) idx = some (ix2 r c) ↔ n = r ∧ (idx (ix1 0)).toInt = c.val := by
  have hw0 : (colDims wf).window (ix1 n) 0 = n.val := rfl
  have hw1 : (colDims wf).window (ix1 n) 1 = 0 := rfl
  have h0 : (colDims wf).start (ix1 n) idx 0 = 0 := rfl
  have h1 : (colDims wf).start (ix1 n) idx 1 = (idx (ix1 0)).toInt := by
    unfold ScatterDims.start
    rw [dif_pos (show (1 : Fin 2) ∈ (colDims wf).scatterDimsToOperandDims from List.mem_singleton.mpr rfl)]
    refine congrArg (fun i => (idx i).toInt) (funext fun e => Fin.ext ?_)
    match e with
    | ⟨0, _⟩ => rfl
  refine (Routing.resultIdx?_ix2 (colDims wf) (ix1 n) idx r c).trans ?_
  rw [hw0, hw1, h0, h1, Fin.ext_iff]
  simp

/-- Conditional additions folded over a list are the start plus the sum of what is added. -/
theorem foldl_cond_add {ι : Type} (l : List ι) (P : ι → Prop) [DecidablePred P] (u : ι → EReal) (x : EReal) :
    l.foldl (fun a n => if P n then a + u n else a) x = x + (l.map fun n => if P n then u n else 0).sum := by
  induction l generalizing x with
  | nil => simp
  | cons n l ih =>
    rw [List.foldl_cons, ih, List.map_cons, List.sum_cons, ← add_assoc]
    by_cases h : P n
    · rw [if_pos h, if_pos h]
    · rw [if_neg h, if_neg h, add_zero]

/-- A column added into a table: the listed column gains the update, the others keep their values. -/
theorem scatter_col (wf) (x : FVec Ideal ⟨2, ![R, C]⟩ .f32) (idx : IVec ⟨1, ![1]⟩ 32) (u : FVec Ideal ⟨1, ![R]⟩ .f32)
    (r : Fin R) (c : Fin C) :
    Host.scatter (colDims wf) FloatOps.addf x idx u (ix2 r c)
      = x (ix2 r c) + if (idx (ix1 0)).toInt = c.val then u (ix1 r) else 0 := by
  rw [Routing.scatter_at]
  refine (foldl_cond_add _ (fun n => (colDims wf).resultIdx? ((⟨1, ![R]⟩ : Shape).rowMajor.symm n) idx = some (ix2 r c))
    (fun n => u ((⟨1, ![R]⟩ : Shape).rowMajor.symm n)) _).trans ?_
  congr 1
  rw [← List.ofFn_eq_map, List.sum_ofFn,
    Equiv.sum_comp (⟨1, ![R]⟩ : Shape).rowMajor.symm
      (fun j => if (colDims wf).resultIdx? j idx = some (ix2 r c) then u j else 0), sum_idx1]
  simp only [lands_col]
  rw [Finset.sum_eq_single r (fun n _ hn => if_neg fun h => hn h.1) (fun h => absurd (Finset.mem_univ _) h)]
  simp

end

/-- A place in a row of a flat range is in the range. -/
theorem row_lt {N m n : ℕ} (hN : m * n = N) (i : Fin m) (j : Fin n) : i.val * n + j.val < N := by
  have h : (i.val + 1) * n ≤ m * n := Nat.mul_le_mul_right n i.isLt
  have := j.isLt
  rw [Nat.succ_mul] at h
  omega

/-- A sum over a flat range as a double sum over rows and columns. -/
theorem sum_rows {M : Type} [AddCommMonoid M] {N : ℕ} (m n : ℕ) (hN : m * n = N) (f : Fin N → M) :
    ∑ k : Fin N, f k = ∑ i : Fin m, ∑ j : Fin n, f ⟨i.val * n + j.val, row_lt hN i j⟩ := by
  subst hN
  rw [← Fintype.sum_prod_type', ← Equiv.sum_comp finProdFinEquiv]
  refine Finset.sum_congr rfl fun p _ => congrArg f (Fin.ext ?_)
  rw [finProdFinEquiv_apply_val]
  show _ = p.1.val * n + p.2.val
  rw [Nat.mul_comm, Nat.add_comm]

end Cert.ReferenceIdeal.Hand

end
-- ==== Proof.RefRead.lean ====
/-
  The reference's stages, read at an index.
-/
module

public import proofs.«01_k».proof.Proof.RefStages
public import proofs.«01_k».proof.Proof.RefMax
public import proofs.«01_k».proof.Proof.RefIndex

@[expose] public section

set_option maxRecDepth 16384

noncomputable section

open Idealize.ShloMosaic Idealize.ShloMosaic.TcCoe Idealize.SL.Sem
open scoped BigOperators

namespace Cert.ReferenceIdeal.Hand

open Cert.ReferenceIdeal Cert.ReferenceIdeal.Gen Cert.ReferenceIdeal.Value

/-- Times one changes nothing. -/
theorem scaled_apply (T : FVec Ideal S8x16x512x512 .f32) (b : Fin 8) (c : Fin 16) (h w : Fin 512) :
    scaled T (ix4 b c h w) = T (ix4 b c h w) := by
  pointwise [scaled]

/-- The scaled targets are the targets. -/
theorem scaled_eq (T : FVec Ideal S8x16x512x512 .f32) : scaled T = T := by
  funext i
  idx_vars i
  exact scaled_apply T _ _ _ _

/-- A maximum kept where its absolute value is below the greatest extended real. -/
def keep (m : EReal) : EReal := if FloatOps.absf (F := Ideal) (φ := .f32) m < Ideal.ofBits .f32 0x7F800000#32 then m else 0

/-- The guarded maximum at an index. -/
theorem guard_apply (M : FVec Ideal S8x512x512 .f32) (b : Fin 8) (i : Fin 1) (h w : Fin 512) :
    guard M (ix4 b i h w) = keep (M (ix3 b h w)) := by
  pointwise [guard, keep]
  simp [constant]

/-- The channel maximum of the targets at a pixel. -/
theorem max16_apply (X : FVec Ideal S8x16x512x512 .f32) (b : Fin 8) (h w : Fin 512) :
    max16 X (ix3 b h w) = Finset.univ.fold max (Ideal.ofBits .f32 0xFF800000#32) fun c : Fin 16 => X (ix4 b c h w) :=
  max_axis1 X _ _ _ b h w

/-- The logarithm of a sum of exponentials, computed about `m`. -/
def lseAt {n : ℕ} (m : EReal) (x : Fin n → EReal) : EReal := Ideal.log (∑ c, Ideal.exp (x c - m)) + m

/-- The logits' logarithm at a pixel. -/
theorem lse21_apply (X : FVec Ideal S8x21x512x512 .f32) (b : Fin 8) (h w : Fin 512) :
    lse21 X (ix3 b h w) = lseAt (keep (max21 X (ix3 b h w))) fun c : Fin 21 => X (ix4 b c h w) := by
  have e : top21 X (ix4 b 0 h w) = keep (max21 X (ix3 b h w)) := guard_apply _ b 0 h w
  unfold lseAt
  rw [← e]
  pointwise [lse21]

/-- The background's logarithm at a pixel. -/
theorem lse6_apply (X : FVec Ideal S8x6x512x512 .f32) (b : Fin 8) (h w : Fin 512) :
    lse6 X (ix3 b h w) = lseAt (keep (max6 X (ix3 b h w))) fun c : Fin 6 => X (ix4 b c h w) := by
  have e : top6 X (ix4 b 0 h w) = keep (max6 X (ix3 b h w)) := guard_apply _ b 0 h w
  unfold lseAt
  rw [← e]
  pointwise [lse6]

/-- The channel number of background channel `c`. -/
def bkgChan (c : Fin 6) : Fin 21 := if c.val = 0 then 0 else ⟨15 + c.val, by omega⟩

/-- The listed channel numbers of the background. -/
theorem bkgIdx_apply (c : Fin 6) : bkgIdx (ix1 c) = BitVec.ofNat 32 (bkgChan c).val := by
  fin_cases c
  all_goals
    pointwise [bkgIdx, fn_main_v22]
    rfl

/-- A background channel is the logits' channel of its number. -/
theorem bkg6_apply (X : FVec Ideal S8x21x512x512 .f32) (b : Fin 8) (c : Fin 6) (h w : Fin 512) :
    bkg6 X (ix4 b c h w) = X (ix4 b (bkgChan c) h w) := by
  refine gather_chan _ X _ b c h w (bkgChan c) ?_
  pointwise []
  rw [bkgIdx_apply]
  fin_cases c <;> rfl

/-- The other channels' log-probabilities at a pixel. -/
theorem outNo_apply (X : FVec Ideal S8x21x512x512 .f32) (b : Fin 8) (c : Fin 15) (h w : Fin 512) :
    outNo X (ix4 b c h w) = X (ix4 b ⟨1 + c.val, by omega⟩ h w) - lse21 X (ix3 b h w) := by
  pointwise [outNo]

/-- A target's place in the row of its image. -/
theorem rowT_apply (T : FVec Ideal S8x16x512x512 .f32) (b : Fin 8) (k : Fin 4194304) :
    rowT T (ix2 b k) = T (ix4 b ⟨k.val / 262144, by omega⟩ ⟨k.val / 512 % 512, by omega⟩ ⟨k.val % 512, by omega⟩) := by
  pointwise [rowT]

/-- A target's bin, clipped into range. -/
def binRef (t : EReal) : BitVec 32 :=
  IntOp.minsi 20#32 (IntOp.maxsi 0#32 (Ideal.fptosi 32 (Ideal.liftRound Int.floor (Ideal.div t (Ideal.ofBits .f32 0x3F73CF3D#32)))))

/-- Whether a target is in the histogram's range, as a float: one or zero. -/
def validRef (t : EReal) : EReal :=
  FloatOps.uitofp (F := Ideal) .f32 (IntOp.andi (BitVec.ofBool (decide (0 ≤ t))) (BitVec.ofBool (decide (t ≤ Ideal.ofBits .f32 0x41A00000#32))))

/-- The flat bins at an index. -/
theorem binF_apply (Y : FVec Ideal S8x4194304 .f32) (k : Fin 33554432) :
    binF Y (ix1 k) = binRef (Y (ix2 ⟨k.val / 4194304, by omega⟩ ⟨k.val % 4194304, by omega⟩)) := by
  pointwise [binF, binR]
  rfl

/-- The flat weights at an index. -/
theorem validF_apply (Y : FVec Ideal S8x4194304 .f32) (k : Fin 33554432) :
    validF Y (ix1 k) = validRef (Y (ix2 ⟨k.val / 4194304, by omega⟩ ⟨k.val % 4194304, by omega⟩)) := by
  pointwise [validF, validR]
  rfl

/-- The flat image numbers at an index. -/
theorem imgF_apply (k : Fin 33554432) : imgF (ix1 k) = BitVec.ofNat 32 (k.val / 4194304) := by
  pointwise [imgF, imgR]

/-- A wrapped index below half the range is the index. -/
theorem wrapR_apply (q : IVec S33554432 32) (n : BitVec 32) (k : Fin 33554432) (hq : (q (ix1 k)).toNat < 2 ^ 31) :
    wrapR q n (ix1 k) = q (ix1 k) := by
  pointwise [wrapR]
  exact Routing.wrap_of_lt _ _ hq

/-- The row listed for an update. -/
theorem places_row (Y : FVec Ideal S8x4194304 .f32) (k : Fin 33554432) :
    places Y (ix2 k 0) = wrapR imgF 8#32 (ix1 k) := by
  pointwise [places, fn_main_v75]

/-- The column listed for an update. -/
theorem places_col (Y : FVec Ideal S8x4194304 .f32) (k : Fin 33554432) :
    places Y (ix2 k 1) = wrapR (binF Y) 21#32 (ix1 k) := by
  pointwise [places, fn_main_v75]

/-- The filled histogram at an index. -/
theorem filledR_apply (H : FVec Ideal S8x21 .f32) (b : Fin 8) (k : Fin 21) :
    filledR H (ix2 b k) = if H (ix2 b k) = 0 then 1 else H (ix2 b k) := by
  pointwise [filledR]
  simp [constant]

/-- The class counts at an index. -/
theorem mergedR_apply (G : FVec Ideal S8x21 .f32) (b : Fin 8) (k : Fin 16) :
    mergedR G (ix2 b k) = G (ix2 b ⟨k.val, by omega⟩)
      + if k.val = 0 then ∑ c : Fin 5, G (ix2 b ⟨16 + c.val, by omega⟩) else 0 := by
  refine (scatter_col _ _ _ _ b k).trans ?_
  have e0 : ∀ k : Fin 16, ((0#32 : BitVec 32).toInt = (k.val : ℤ)) ↔ k.val = 0 := fun k => by
    rw [show (0#32 : BitVec 32).toInt = 0 from rfl]; omega
  pointwise []
  simp only [e0]

/-- The weights at an index. -/
theorem weightsR_apply (M : FVec Ideal S8x16 .f32) (b : Fin 8) (k : Fin 16) :
    weightsR M (ix2 b k)
      = Ideal.pow (Ideal.div (∑ j : Fin 16, M (ix2 b j)) (M (ix2 b k))) (Ideal.ofBits .f32 0x3DCCCCCD#32) := by
  pointwise [weightsR]

/-- The shifted exponential at an index. -/
theorem shiftBy_apply (T : FVec Ideal S8x16x512x512 .f32) (M : FVec Ideal S8x512x512 .f32) (b : Fin 8) (c : Fin 16) (h w : Fin 512) :
    shiftBy T M (ix4 b c h w) = Ideal.exp (T (ix4 b c h w) - max (Ideal.ofBits .f32 0xFF800000#32) (M (ix3 b h w))) := by
  pointwise [shiftBy]

/-- The exponential shifted by the channel maximum at an index. -/
theorem shiftedR_apply (T : FVec Ideal S8x16x512x512 .f32) (b : Fin 8) (c : Fin 16) (h w : Fin 512) :
    shiftedR T (ix4 b c h w)
      = Ideal.exp (T (ix4 b c h w) - max (Ideal.ofBits .f32 0xFF800000#32) (max16 T (ix3 b h w))) :=
  shiftBy_apply T (max16 T) b c h w

/-- The softmax at an index. -/
theorem softR_apply (T : FVec Ideal S8x16x512x512 .f32) (b : Fin 8) (c : Fin 16) (h w : Fin 512) :
    softR T (ix4 b c h w) = Ideal.div (shiftedR T (ix4 b c h w)) (∑ k : Fin 16, shiftedR T (ix4 b k h w)) := by
  pointwise [softR]

/-- The weighted softmax at an index. -/
theorem labelsR_apply (W : FVec Ideal S8x16 .f32) (S : FVec Ideal S8x16x512x512 .f32) (b : Fin 8) (c : Fin 16) (h w : Fin 512) :
    labelsR W S (ix4 b c h w) = W (ix2 b c) * S (ix4 b c h w) := by
  pointwise [labelsR]

/-- A pixel's loss. -/
theorem pixelR_apply (L : FVec Ideal S8x16x512x512 .f32) (B : FVec Ideal S8x512x512 .f32) (N : FVec Ideal S8x15x512x512 .f32)
    (b : Fin 8) (h w : Fin 512) :
    pixelR L B N (ix3 b h w) = L (ix4 b 0 h w) * B (ix3 b h w)
      + ∑ c : Fin 15, L (ix4 b ⟨1 + c.val, by omega⟩ h w) * N (ix4 b c h w) := by
  pointwise [pixelR]

/-- The negated mean over the pixels. -/
theorem meanR_apply (Q : FVec Ideal S8x512x512 .f32) (j : S_.Idx) :
    meanR Q j = - Ideal.div (∑ b : Fin 8, ∑ h : Fin 512, ∑ w : Fin 512, Q (ix3 b h w)) (Ideal.ofBits .f32 0x4A000000#32) := by
  pointwise [meanR]

end Cert.ReferenceIdeal.Hand

end
-- ==== Proof.PixelEq.lean ====
/-
  A pixel's log-probabilities and softmax in the reference are the kernel's.
-/
module

public import proofs.«01_k».proof.Proof.Math
public import proofs.«01_k».proof.Proof.PBlock
public import proofs.«01_k».proof.Proof.RefRead

@[expose] public section

set_option maxRecDepth 16384

noncomputable section

open Idealize.ShloMosaic
open scoped BigOperators

namespace Cert.Hand

open Cert.KernelIdeal.Hand (expSum expBkg logp pterm)
open Cert.ReferenceIdeal Cert.ReferenceIdeal.Gen Cert.ReferenceIdeal.Hand

/-- A guarded maximum is a real. -/
theorem keep_real (m : EReal) : ∃ r : ℝ, keep m = (r : EReal) := by
  unfold keep
  rw [lit_top]
  split
  · next h =>
    have h' : max m (-m) < ⊤ := h
    rw [max_lt_iff] at h'
    induction m with
    | bot => simp at h'
    | top => simp at h'
    | coe r => exact ⟨r, rfl⟩
  · exact ⟨0, rfl⟩

/-- Computed about a guarded maximum, a logarithm of a sum of exponentials is the plain one. -/
theorem lseAt_keep {n : ℕ} (m : EReal) (x : Fin n → EReal) : lseAt (keep m) x = Ideal.log (∑ c, Ideal.exp (x c)) := by
  obtain ⟨r, hr⟩ := keep_real m
  unfold lseAt
  rw [hr, lse_about]

/-- The logits' logarithm is the kernel's. -/
theorem lse21_eq (X : FVec Ideal S8x21x512x512 .f32) (b : Fin 8) (h w : Fin 512) :
    lse21 X (ix3 b h w) = Ideal.log (expSum fun c => X (ix4 b c h w)) := by
  rw [lse21_apply, lseAt_keep]
  rfl

/-- The background's logarithm is the kernel's. -/
theorem lse6_eq (X : FVec Ideal S8x21x512x512 .f32) (b : Fin 8) (h w : Fin 512) :
    lse6 (bkg6 X) (ix3 b h w) = Ideal.log (expBkg fun c => X (ix4 b c h w)) := by
  rw [lse6_apply, lseAt_keep, Fin.sum_univ_succ]
  simp only [bkg6_apply]
  unfold expBkg
  congr 2

/-- The background's log-probability is the kernel's of the first class. -/
theorem outBkg_eq (X : FVec Ideal S8x21x512x512 .f32) (b : Fin 8) (h w : Fin 512) :
    outBkg X (ix3 b h w) = logp (fun c => X (ix4 b c h w)) 0 := by
  show lse6 (bkg6 X) (ix3 b h w) - lse21 X (ix3 b h w) = _
  rw [lse6_eq, lse21_eq]
  unfold logp
  rw [if_pos (show (0 : Fin 16).val = 0 from rfl)]

/-- The other classes' log-probabilities are the kernel's. -/
theorem outNo_eq (X : FVec Ideal S8x21x512x512 .f32) (b : Fin 8) (c : Fin 15) (h w : Fin 512) :
    outNo X (ix4 b c h w) = logp (fun c => X (ix4 b c h w)) c.succ := by
  rw [outNo_apply, lse21_eq]
  unfold logp
  rw [if_neg (show ¬(c.succ.val = 0) from Nat.succ_ne_zero _)]
  have e : (⟨1 + c.val, by omega⟩ : Fin 21) = ⟨c.succ.val, by omega⟩ := Fin.ext (Nat.add_comm _ _)
  rw [e]

/-- The softmax is the kernel's where the channel maximum is a real. -/
theorem softR_eq (T : FVec Ideal S8x16x512x512 .f32) (b : Fin 8) (k : Fin 16) (h w : Fin 512)
    (hm : ⊥ < max16 T (ix3 b h w) ∧ max16 T (ix3 b h w) < ⊤) :
    softR T (ix4 b k h w) = Ideal.exp (T (ix4 b k h w)) * Ideal.div 1 (∑ c : Fin 16, Ideal.exp (T (ix4 b c h w))) := by
  have hmax := max16_apply T b h w
  rw [lit_bot] at hmax
  rw [softR_apply]
  simp only [shiftedR_apply, lit_bot, max_eq_right (bot_le : (⊥ : EReal) ≤ _)]
  obtain ⟨h1, h2⟩ := hm
  have ht : ∀ c : Fin 16, T (ix4 b c h w) ≠ ⊤ := fun c => by
    rw [hmax, Finset.fold_max_lt] at h2
    exact (h2.2 c (Finset.mem_univ c)).ne
  have h0 : ∃ c : Fin 16, T (ix4 b c h w) ≠ ⊥ := by
    rw [hmax, Finset.lt_fold_max] at h1
    rcases h1 with h | ⟨c, _, h⟩
    · exact absurd h (lt_irrefl _)
    · exact ⟨c, h.ne'⟩
  obtain ⟨c0, h0⟩ := h0
  obtain ⟨r, hr⟩ : ∃ r : ℝ, max16 T (ix3 b h w) = (r : EReal) :=
    ⟨_, (EReal.coe_toReal h2.ne h1.ne').symm⟩
  rw [hr]
  exact softmax_about (fun c : Fin 16 => T (ix4 b c h w)) r ht c0 h0 k

end Cert.Hand

end
-- ==== Proof.Bins.lean ====
/-
  The reference's clipped bin with its range test picks the same targets for each bin as the kernel's bin.
-/
module

public import proofs.«01_k».proof.Proof.Math
public import proofs.«01_k».proof.Proof.Count
public import proofs.«01_k».proof.Proof.RefRead

@[expose] public section

set_option maxRecDepth 16384

noncomputable section

open Idealize.ShloMosaic
open scoped BigOperators

namespace Cert.Hand

open Cert.KernelIdeal.Hand (bin)
open Cert.ReferenceIdeal.Hand (binRef validRef)

/-- The bin width is positive and more than a half. -/
theorem width_half : (1 / 2 : ℝ) < width := by unfold width; norm_num

/-- The floor of a real over the bin width. -/
def fl (r : ℝ) : ℤ := ⌊r * (1 / width)⌋

/-- A real's word: its floor over the bin width, clamped into the range of words. -/
theorem word_real (r : ℝ) :
    Ideal.fptosi 32 (Ideal.liftRound Int.floor (Ideal.div (r : EReal) (Ideal.ofBits .f32 0x3F73CF3D#32)))
      = BitVec.ofInt 32 (max (-2147483648) (min 2147483647 (fl r))) := by
  rw [lit_width, Ideal.div_coe (by have := width_half; linarith), ← EReal.coe_mul, Ideal.liftRound_coe]
  unfold Ideal.fptosi
  rw [Ideal.toIntClamped_coe]
  simp only [Int.floor_intCast, Int.ceil_intCast, ite_self]
  rfl

/-- The least extended real's word. -/
theorem word_bot :
    Ideal.fptosi 32 (Ideal.liftRound Int.floor (Ideal.div (⊥ : EReal) (Ideal.ofBits .f32 0x3F73CF3D#32)))
      = BitVec.ofInt 32 (-2147483648) := by
  have h : (0 : ℝ) < 1 / width := by have := width_half; positivity
  rw [lit_width, Ideal.div_coe (by have := width_half; linarith), EReal.bot_mul_coe_of_pos h, Ideal.liftRound_bot]
  rfl

/-- The kernel's bin: its word held at 20, or a number past every bin above 20. -/
theorem bin_eq (t : EReal) :
    bin t = if ((20 : ℝ) : EReal) < t then 4294967288#32 else IntOp.minsi
      (Ideal.fptosi 32 (Ideal.liftRound Int.floor (Ideal.div t (Ideal.ofBits .f32 0x3F73CF3D#32)))) 20#32 := by
  show Scalar.select (BitVec.ofBool (decide (Ideal.ofBits .f32 0x41A00000#32 < t))) _ _ = _
  rw [lit_twenty]
  by_cases h : ((20 : ℝ) : EReal) < t
  · rw [if_pos h, decide_eq_true h]; rfl
  · rw [if_neg h, decide_eq_false h]; rfl

/-- The weight of a target is one within range, zero outside. -/
theorem validRef_eq (t : EReal) : validRef t = if 0 ≤ t ∧ t ≤ ((20 : ℝ) : EReal) then 1 else 0 := by
  unfold validRef
  rw [lit_twenty]
  show (((IntOp.andi (BitVec.ofBool (decide (0 ≤ t))) (BitVec.ofBool (decide (t ≤ ((20 : ℝ) : EReal))))).toNat : ℝ) : EReal) = _
  by_cases h1 : 0 ≤ t
  · by_cases h2 : t ≤ ((20 : ℝ) : EReal)
    · rw [if_pos ⟨h1, h2⟩, decide_eq_true h1, decide_eq_true h2]
      show (((1 : ℕ) : ℝ) : EReal) = 1
      norm_num
    · rw [if_neg fun h => h2 h.2, decide_eq_true h1, decide_eq_false h2]
      show (((0 : ℕ) : ℝ) : EReal) = 0
      norm_num
  · rw [if_neg fun h => h1 h.1, decide_eq_false h1]
    have : IntOp.andi (BitVec.ofBool false) (BitVec.ofBool (decide (t ≤ ((20 : ℝ) : EReal)))) = 0#1 := by
      cases decide (t ≤ ((20 : ℝ) : EReal)) <;> rfl
    rw [this]
    show (((0 : ℕ) : ℝ) : EReal) = 0
    norm_num

/-- A word of an integer in the range of words, read signed. -/
theorem toInt_word (z : ℤ) (h1 : -2147483648 ≤ z) (h2 : z ≤ 2147483647) : (BitVec.ofInt 32 z).toInt = z := by
  rw [BitVec.toInt_ofInt]
  rw [Int.bmod_eq_of_le] <;> norm_num <;> omega

/-- The signed minimum of two words, read signed. -/
theorem toInt_minsi (a b : BitVec 32) : (IntOp.minsi a b).toInt = min a.toInt b.toInt := by
  unfold IntOp.minsi
  split <;> rename_i h <;> simp [BitVec.slt, BitVec.sle] at h <;> omega

/-- The signed maximum of two words, read signed. -/
theorem toInt_maxsi (a b : BitVec 32) : (IntOp.maxsi a b).toInt = max a.toInt b.toInt := by
  unfold IntOp.maxsi
  split <;> rename_i h <;> simp [BitVec.slt, BitVec.sle] at h <;> omega

/-- A word read unsigned is a small number exactly when it is that number read signed. -/
theorem toNat_eq_iff (q : BitVec 32) (k : ℕ) (hk : k ≤ 20) : q.toNat = k ↔ q.toInt = (k : ℤ) := by
  rw [BitVec.toInt_eq_toNat_cond]
  have := q.isLt
  split <;> omega

/-- The reference's bin, read signed, is between 0 and 20. -/
theorem binRef_range (t : EReal) : 0 ≤ (binRef t).toInt ∧ (binRef t).toInt ≤ 20 := by
  unfold binRef
  rw [toInt_minsi, toInt_maxsi, show (20#32 : BitVec 32).toInt = 20 from rfl, show (0#32 : BitVec 32).toInt = 0 from rfl]
  omega

/-- A target counts for a bin in the reference exactly when its bin in the kernel is that bin. -/
theorem bins_agree (t : EReal) (k : ℕ) (hk : k ≤ 20) :
    (if (binRef t).toInt = (k : ℤ) then validRef t else 0) = if (bin t).toNat = k then (1 : EReal) else 0 := by
  rw [validRef_eq, bin_eq]
  have c20 : (20#32 : BitVec 32).toInt = 20 := rfl
  have c0 : (0#32 : BitVec 32).toInt = 0 := rfl
  have far : (4294967288#32 : BitVec 32).toNat ≠ k := by
    rw [show (4294967288#32 : BitVec 32).toNat = 4294967288 from rfl]; omega
  induction t with
  | bot =>
    have hv : ¬((0 : EReal) ≤ ⊥ ∧ (⊥ : EReal) ≤ ((20 : ℝ) : EReal)) := fun h => by simpa using h.1
    have hg : ¬((20 : ℝ) : EReal) < ⊥ := not_lt_bot
    have hb : ¬(IntOp.minsi (BitVec.ofInt 32 (-2147483648)) 20#32).toNat = k := fun h => by
      rw [toNat_eq_iff _ _ hk, toInt_minsi, toInt_word _ le_rfl (by norm_num), c20] at h
      omega
    rw [if_neg hv, if_neg hg, word_bot, if_neg hb, ite_self]
  | top =>
    have hv : ¬((0 : EReal) ≤ ⊤ ∧ (⊤ : EReal) ≤ ((20 : ℝ) : EReal)) := fun h =>
      absurd h.2 (not_le.2 (EReal.coe_lt_top _))
    rw [if_neg hv, if_pos (EReal.coe_lt_top _), if_neg far, ite_self]
  | coe r =>
    unfold binRef
    rw [word_real]
    by_cases hr : (20 : ℝ) < r
    · have hv : ¬((0 : EReal) ≤ (r : EReal) ∧ (r : EReal) ≤ ((20 : ℝ) : EReal)) := fun h =>
        not_le.2 hr (EReal.coe_le_coe_iff.1 h.2)
      rw [if_neg hv, if_pos (EReal.coe_lt_coe_iff.2 hr), if_neg far, ite_self]
    · have hg : ¬((20 : ℝ) : EReal) < (r : EReal) := fun h => hr (EReal.coe_lt_coe_iff.1 h)
      rw [if_neg hg]
      simp only [toNat_eq_iff _ _ hk]
      rw [toInt_minsi, toInt_minsi, toInt_maxsi, c20, c0, toInt_word _ (by omega) (by omega)]
      have hw := width_half
      by_cases h0 : 0 ≤ r
      · have hv : (0 : EReal) ≤ (r : EReal) ∧ (r : EReal) ≤ ((20 : ℝ) : EReal) :=
          ⟨EReal.coe_nonneg.2 h0, EReal.coe_le_coe_iff.2 (not_lt.1 hr)⟩
        have hf : 0 ≤ fl r := Int.floor_nonneg.2 (by positivity)
        have e : min 20 (max 0 (max (-2147483648) (min 2147483647 (fl r)))) = min (max (-2147483648) (min 2147483647 (fl r))) 20 := by
          omega
        rw [if_pos hv, e]
      · have hv : ¬((0 : EReal) ≤ (r : EReal) ∧ (r : EReal) ≤ ((20 : ℝ) : EReal)) := fun h => h0 (EReal.coe_nonneg.1 h.1)
        have hf : fl r < 0 := Int.floor_lt.2 (by
          have : (0 : ℝ) < 1 / width := by positivity
          push_cast
          exact mul_neg_of_neg_of_pos (not_le.1 h0) this)
        have hb : ¬min (max (-2147483648) (min 2147483647 (fl r))) 20 = (k : ℤ) := fun h => by omega
        rw [if_neg hv, if_neg hb, ite_self]

end Cert.Hand

end
-- ==== Proof.HistEq.lean ====
/-
  The reference's histogram is the kernel's array of counts, summed over its columns.
-/
module

public import proofs.«01_k».proof.Proof.Bins
public import proofs.«01_k».proof.Proof.Fold

@[expose] public section

set_option maxRecDepth 16384

noncomputable section

open Idealize.ShloMosaic
open scoped BigOperators

namespace Cert.Hand

open Cert.KernelIdeal.Hand (bin histOf)
open Cert.ReferenceIdeal Cert.ReferenceIdeal.Gen Cert.ReferenceIdeal.Hand

/-- A sum over the row of an image is the sum over its channels, heights and widths. -/
theorem sum_image (G : Fin 16 → Fin 512 → Fin 512 → EReal) :
    ∑ j : Fin 4194304, G ⟨j.val / 262144, by omega⟩ ⟨j.val / 512 % 512, by omega⟩ ⟨j.val % 512, by omega⟩
      = ∑ c, ∑ h, ∑ w, G c h w := by
  rw [sum_rows 16 262144 (by norm_num)]
  refine Finset.sum_congr rfl fun c _ => ?_
  rw [sum_rows 512 512 (by norm_num)]
  refine Finset.sum_congr rfl fun h _ => Finset.sum_congr rfl fun w _ => ?_
  have e1 : (c.val * 262144 + (h.val * 512 + w.val)) / 262144 = c.val := by omega
  have e2 : (c.val * 262144 + (h.val * 512 + w.val)) / 512 % 512 = h.val := by omega
  have e3 : (c.val * 262144 + (h.val * 512 + w.val)) % 512 = w.val := by omega
  simp only [e1, e2, e3]

/-- A small number's word, read signed. -/
theorem toInt_small (n : ℕ) (hn : n < 8) : (BitVec.ofNat 32 n).toInt = (n : ℤ) := by
  rw [BitVec.toInt_eq_toNat_cond, BitVec.toNat_ofNat]
  split <;> omega

/-- The row an update is listed for: the number of its image. -/
theorem place_row (Y : FVec Ideal S8x4194304 .f32) (n : Fin 33554432) :
    (places Y (ix2 n 0)).toInt = ((n.val / 4194304 : ℕ) : ℤ) := by
  have hn := n.isLt
  have e := imgF_apply n
  rw [places_row, wrapR_apply, e, toInt_small _ (by omega)]
  rw [e, BitVec.toNat_ofNat]
  omega

/-- The column an update is listed for: its bin. -/
theorem place_col (Y : FVec Ideal S8x4194304 .f32) (n : Fin 33554432) :
    places Y (ix2 n 1) = binRef (Y (ix2 ⟨n.val / 4194304, by omega⟩ ⟨n.val % 4194304, by omega⟩)) := by
  have e := binF_apply Y n
  rw [places_col, wrapR_apply, e]
  rw [e]
  have h := binRef_range (Y (ix2 ⟨n.val / 4194304, by omega⟩ ⟨n.val % 4194304, by omega⟩))
  rw [BitVec.toInt_eq_toNat_cond] at h
  split at h <;> omega

/-- What a value adds to the count of bin `k`. -/
def hit (k : ℕ) (t : EReal) : EReal := if (bin t).toNat = k then 1 else 0

/-- The reference's count of bin `k` in an image: the sum over the row of the image. -/
theorem histR_row (Y : FVec Ideal S8x4194304 .f32) (b : Fin 8) (k : Fin 21) :
    histR Y (ix2 b k) = ∑ j : Fin 4194304, hit k.val (Y (ix2 b j)) := by
  refine (scatter_cell _ _ _ _ b k).trans ?_
  have z : broadcastInDim S8x21 ![] bcast_S_S8x21 (constant (F := Ideal) S_ .f32 0x00000000#32) (ix2 b k) = 0 := by
    pointwise []
  rw [z, zero_add, sum_rows 8 4194304 (by norm_num), Finset.sum_eq_single b]
  · refine Finset.sum_congr rfl fun j _ => ?_
    have hj := j.isLt
    have e1 : (b.val * 4194304 + j.val) / 4194304 = b.val := by omega
    have e2 : (b.val * 4194304 + j.val) % 4194304 = j.val := by omega
    rw [place_row, place_col, validF_apply]
    simp only [e1, e2, true_and]
    exact bins_agree _ k.val (by omega)
  · intro i _ hi
    refine Finset.sum_eq_zero fun j _ => if_neg fun h => hi (Fin.ext ?_)
    have hj := j.isLt
    have h1 := h.1
    rw [place_row] at h1
    have : (i.val * 4194304 + j.val) / 4194304 = b.val := by exact_mod_cast h1
    omega
  · exact fun h => absurd (Finset.mem_univ _) h

/-- The reference's count of bin `k` in an image, over channels, heights and widths. -/
theorem histR_count (T : FVec Ideal S8x16x512x512 .f32) (b : Fin 8) (k : Fin 21) :
    histR (rowT T) (ix2 b k) = ∑ c : Fin 16, ∑ h : Fin 512, ∑ w : Fin 512, hit k.val (T (ix4 b c h w)) := by
  rw [histR_row]
  simp only [rowT_apply]
  exact sum_image fun c h w => hit k.val (T (ix4 b c h w))

/-- A tally is the sum of the hits in its strip of rows. -/
theorem tally_hits (T : FVec Ideal S8x16x512x512 .f32) (b : Fin 8) (k : ℕ) (s : Fin 4) (w : Fin 512) :
    ((Cert.KernelIdeal.Hand.tallyAt T b k s w : ℕ) : EReal)
      = ∑ c : Fin 16, ∑ h : Fin 128, hit k (T (ix4 b c ⟨s.val * 128 + h.val, by omega⟩ w)) := by
  unfold Cert.KernelIdeal.Hand.tallyAt hit
  push_cast
  rfl

/-- The reference's histogram is the kernel's counts, summed over the columns. -/
theorem hist_eq (T : FVec Ideal S8x16x512x512 .f32) (b : Fin 8) (k : Fin 21) :
    histR (rowT T) (ix2 b k) = ∑ w : Fin 512, histOf T (ix3 b k w) := by
  rw [histR_count]
  have e : ∀ w : Fin 512, histOf T (ix3 b k w) = ∑ c : Fin 16, ∑ h : Fin 512, hit k.val (T (ix4 b c h w)) := fun w => by
    show ∑ s : Fin 4, ((Cert.KernelIdeal.Hand.tallyAt T b k.val s w : ℕ) : EReal) = _
    simp only [tally_hits]
    rw [Finset.sum_comm]
    exact Finset.sum_congr rfl fun c _ => (sum_rows 4 128 (by norm_num) fun h => hit k.val (T (ix4 b c h w))).symm
  simp only [e]
  exact (Finset.sum_congr rfl fun c _ => Finset.sum_comm).trans Finset.sum_comm

/-- The count of a bin in an image is a natural number. -/
theorem hist_nat (T : FVec Ideal S8x16x512x512 .f32) (b : Fin 8) (k : Fin 21) :
    ∃ n : ℕ, ∑ w : Fin 512, histOf T (ix3 b k w) = ((n : ℝ) : EReal) := by
  refine ⟨∑ w : Fin 512, ∑ s : Fin 4, Cert.KernelIdeal.Hand.tallyAt T b k.val s w, ?_⟩
  push_cast
  simp only [coe_sum]
  rfl

end Cert.Hand

end
-- ==== Proof.WeightEq.lean ====
/-
  The reference's class weights are the kernel's, and they are positive reals.
-/
module

public import proofs.«01_k».proof.Proof.HistEq
public import proofs.«01_k».proof.Proof.Final

@[expose] public section

set_option maxRecDepth 16384

noncomputable section

open Idealize.ShloMosaic
open scoped BigOperators

namespace Cert.Hand

open Cert.KernelIdeal.Hand (histOf fillOne merge weightK)
open Cert.ReferenceIdeal Cert.ReferenceIdeal.Gen Cert.ReferenceIdeal.Hand

/-- The bin counts of an image in the kernel. -/
def counts (T : FVec Ideal S8x16x512x512 .f32) (b : Fin 8) (c : Fin 21) : EReal := ∑ w : Fin 512, histOf T (ix3 b c w)

/-- A filled count is a positive real. -/
theorem fill_pos (T : FVec Ideal S8x16x512x512 .f32) (b : Fin 8) (c : Fin 21) :
    ∃ r : ℝ, 0 < r ∧ fillOne (counts T b c) = (r : EReal) := by
  obtain ⟨n, hn⟩ := hist_nat T b c
  unfold fillOne counts
  rw [hn]
  split
  · exact ⟨1, one_pos, rfl⟩
  · next h =>
    refine ⟨n, ?_, rfl⟩
    rcases Nat.eq_zero_or_pos n with h0 | h0
    · subst h0
      exact absurd (by simp) h
    · exact_mod_cast h0

/-- A class count is a positive real. -/
theorem merge_pos (T : FVec Ideal S8x16x512x512 .f32) (b : Fin 8) (k : Fin 16) :
    ∃ r : ℝ, 0 < r ∧ merge (counts T b) k = (r : EReal) := by
  choose f hf0 hf using fill_pos T b
  unfold merge
  simp only [hf]
  split
  · refine ⟨f ⟨k.val, by omega⟩ + ∑ c : Fin 5, f ⟨16 + c.val, by omega⟩,
      add_pos_of_pos_of_nonneg (hf0 _) (Finset.sum_nonneg fun c _ => (hf0 _).le), ?_⟩
    rw [EReal.coe_add, coe_sum]
  · exact ⟨_, hf0 _, rfl⟩

/-- The reference's class counts are the kernel's. -/
theorem merged_eq (T : FVec Ideal S8x16x512x512 .f32) (b : Fin 8) (k : Fin 16) :
    mergedR (filledR (histR (rowT T))) (ix2 b k) = merge (counts T b) k := by
  have e : ∀ c : Fin 21, filledR (histR (rowT T)) (ix2 b c) = fillOne (counts T b c) := fun c => by
    rw [filledR_apply, hist_eq]
    rfl
  rw [mergedR_apply]
  simp only [e]
  unfold merge
  split
  · rfl
  · rw [add_zero]

/-- The reference's class weights are the kernel's and are nonnegative reals. -/
theorem weight_eq (T : FVec Ideal S8x16x512x512 .f32) (b : Fin 8) (k : Fin 16) :
    ∃ r : ℝ, 0 ≤ r ∧ weightsR (mergedR (filledR (histR (rowT T)))) (ix2 b k) = (r : EReal)
      ∧ weightK (counts T b) k = (r : EReal) := by
  choose p hp0 hp using merge_pos T b
  have hS : 0 < ∑ j : Fin 16, p j := Finset.sum_pos (fun j _ => hp0 j) ⟨0, Finset.mem_univ _⟩
  refine ⟨Real.exp (tenth * (Real.log (∑ j : Fin 16, p j) - Real.log (p k))), (Real.exp_pos _).le, ?_, ?_⟩
  · rw [weightsR_apply]
    simp only [merged_eq, hp]
    rw [← coe_sum, lit_tenth, pow_quot _ _ _ hS (hp0 k)]
  · unfold weightK
    simp only [hp]
    rw [← coe_sum, lit_tenth, exp_logs _ _ _ hS (hp0 k)]

end Cert.Hand

end
-- ==== Proof.Eq.lean ====
/-
  The reference's result is the kernel's loss, where every pixel's channel maximum of the targets is a real.
-/
module

public import proofs.«01_k».proof.Proof.PixelEq
public import proofs.«01_k».proof.Proof.WeightEq

@[expose] public section

set_option maxRecDepth 16384

noncomputable section

open Idealize.ShloMosaic
open scoped BigOperators

namespace Cert.Hand

open Cert.KernelIdeal.Hand (histOf sumsOf weightK lossK pterm logp)
open Cert.ReferenceIdeal Cert.ReferenceIdeal.Gen Cert.ReferenceIdeal.Hand

/-- Every pixel's channel maximum of the targets is a real. -/
def TopReal (T : FVec Ideal S8x16x512x512 .f32) : Prop :=
  ∀ (b : Fin 8) (h w : Fin 512), ⊥ < max16 T (ix3 b h w) ∧ max16 T (ix3 b h w) < ⊤

/-- The kernel's term of class `k` at a pixel. -/
def term (X : FVec Ideal S8x21x512x512 .f32) (T : FVec Ideal S8x16x512x512 .f32) (b : Fin 8) (k : Fin 16) (h w : Fin 512) : EReal :=
  pterm (fun c => X (ix4 b c h w)) (fun c => T (ix4 b c h w)) k

/-- A pixel's loss in the reference: its terms under any weights, added over the classes. -/
theorem pixel_eq (W : FVec Ideal S8x16 .f32) (X : FVec Ideal S8x21x512x512 .f32) (T : FVec Ideal S8x16x512x512 .f32)
    (hT : TopReal T) (b : Fin 8) (h w : Fin 512) :
    pixelR (labelsR W (softR T)) (outBkg X) (outNo X) (ix3 b h w) = ∑ k : Fin 16, W (ix2 b k) * term X T b k h w := by
  have e : ∀ (k : Fin 16) (l : EReal), l = logp (fun c => X (ix4 b c h w)) k →
      labelsR W (softR T) (ix4 b k h w) * l = W (ix2 b k) * term X T b k h w := fun k l hl => by
    rw [labelsR_apply, softR_eq T b k h w (hT b h w), hl, mul_assoc]
    rfl
  rw [pixelR_apply, Fin.sum_univ_succ fun k : Fin 16 => W (ix2 b k) * term X T b k h w, e 0 _ (outBkg_eq X b h w)]
  refine congrArg (W (ix2 b 0) * term X T b 0 h w + ·) ?_
  refine Finset.sum_congr rfl fun c _ => ?_
  have ec : (⟨1 + c.val, by omega⟩ : Fin 16) = c.succ := Fin.ext (Nat.add_comm _ _)
  rw [ec, e c.succ _ (outNo_eq X b c h w)]

/-- The kernel's channel sums at an index: the terms of a column, added over its height. -/
theorem sums_col (X : FVec Ideal S8x21x512x512 .f32) (T : FVec Ideal S8x16x512x512 .f32) (b : Fin 8) (k : Fin 16) (w : Fin 512) :
    sumsOf X T (ix3 b k w) = ∑ h : Fin 512, term X T b k h w :=
  (sum_rows (M := EReal) (N := 512) 4 128 (by norm_num) fun h => term X T b k h w).symm

/-- The weighted terms of an image, added over its pixels: each class's weight times its channel sum. -/
theorem image_eq (X : FVec Ideal S8x21x512x512 .f32) (T : FVec Ideal S8x16x512x512 .f32) (hT : TopReal T) (b : Fin 8) :
    ∑ h : Fin 512, ∑ w : Fin 512,
        pixelR (labelsR (weightsR (mergedR (filledR (histR (rowT T))))) (softR T)) (outBkg X) (outNo X) (ix3 b h w)
      = ∑ k : Fin 16, weightK (fun c => ∑ w : Fin 512, histOf T (ix3 b c w)) k * ∑ w : Fin 512, sumsOf X T (ix3 b k w) := by
  choose ω hω0 hωR hωK using weight_eq T b
  have hK : ∀ k, weightK (fun c => ∑ w : Fin 512, histOf T (ix3 b c w)) k = ((ω k : ℝ) : EReal) := hωK
  simp only [pixel_eq _ X T hT, hωR, hK, sums_col]
  have e : ∀ k : Fin 16, ((ω k : ℝ) : EReal) * ∑ w : Fin 512, ∑ h : Fin 512, term X T b k h w
      = ∑ h : Fin 512, ∑ w : Fin 512, ((ω k : ℝ) : EReal) * term X T b k h w := fun k => by
    rw [Finset.sum_comm, mul_sum_real _ _ _ (hω0 k)]
    exact Finset.sum_congr rfl fun h _ => mul_sum_real _ _ _ (hω0 k)
  simp only [e]
  exact (Finset.sum_congr rfl fun h _ => Finset.sum_comm).trans Finset.sum_comm

/-- The reference's result is the kernel's loss. -/
theorem result_eq (X : FVec Ideal S8x21x512x512 .f32) (T : FVec Ideal S8x16x512x512 .f32) (hT : TopReal T) :
    meanR (pixelR (labelsR (weightsR (mergedR (filledR (histR (rowT (scaled T)))))) (softR (scaled T))) (outBkg X) (outNo X))
      = fun _ => lossK (histOf T) (sumsOf X T) := by
  funext j
  rw [scaled_eq, meanR_apply]
  simp only [image_eq X T hT]
  unfold lossK
  rw [lit_pixels]
  exact neg_div_real _ _ (by norm_num)

end Cert.Hand

end
-- ==== Proof.Pre.lean ====
/-
  The precondition, read: every pixel's channel maximum of the targets is a real.
-/
module

public import proofs.«01_k».proof.Proof.Eq
public import proofs.«01_k».proof.Pre_largest_target_finite
public import Idealize.ShloMosaic.Lib.ReduceAll

@[expose] public section

set_option maxRecDepth 16384

noncomputable section

open Idealize.ShloMosaic

namespace Cert.Hand

open Cert.ReferenceIdeal.Hand (max16)
open Cert.Pre_largest_target_finite

/-- The shape relations the precondition's operations take. -/
theorem preFacts : Cert.Pre_largest_target_finite.Facts where
  reducesTo_S8x16x512x512_S8x512x512_d1 := by decide
  h_S_ := by decide
  bcast_S_S8x512x512 := by decide
  reducesTo_S8x512x512_S_d0_1_2 := by decide

/-- A conjunction of bits that is one has both bits one. -/
theorem both_of_and (p q : Prop) [Decidable p] [Decidable q]
    (e : IntOp.andi (BitVec.ofBool (decide p)) (BitVec.ofBool (decide q)) = 1#1) : p ∧ q := by
  by_cases hp : p
  · by_cases hq : q
    · exact ⟨hp, hq⟩
    · rw [decide_eq_true hp, decide_eq_false hq] at e
      exact absurd e (by decide)
  · rw [decide_eq_false hp] at e
    refine absurd e ?_
    by_cases hq : q
    · rw [decide_eq_true hq]; decide
    · rw [decide_eq_false hq]; decide

/-- The test of a maximum that is one: the maximum is a real. -/
theorem test_real (M : FVec Ideal S8x512x512 .f32) (h : S_.BroadcastsInDim S8x512x512 (![] : Fin 0 → Fin S8x512x512.rank))
    (b : Fin 8) (y z : Fin 512)
    (e : andi (cmpf .ogt M (broadcastInDim S8x512x512 ![] h (constant S_ .f32 0xFF800000#32)))
      (cmpf .olt M (broadcastInDim S8x512x512 ![] h (constant S_ .f32 0x7F800000#32))) (ix3 b y z) = 1#1) :
    ⊥ < M (ix3 b y z) ∧ M (ix3 b y z) < ⊤ := by
  have e' : IntOp.andi (BitVec.ofBool (decide (Ideal.ofBits .f32 0xFF800000#32 < M (ix3 b y z))))
      (BitVec.ofBool (decide (M (ix3 b y z) < Ideal.ofBits .f32 0x7F800000#32))) = 1#1 := e
  rw [lit_bot, lit_top] at e'
  exact both_of_and _ _ e'

/-- A scalar has one index. -/
instance : Subsingleton S_.Idx := ⟨fun _ _ => funext fun a => a.elim0⟩

/-- Where the precondition holds, every pixel's channel maximum of the targets is a real. -/
theorem top_real [Cert.Pre_largest_target_finite.Facts] (X : FVec Ideal S8x21x512x512 .f32) (T : FVec Ideal S8x16x512x512 .f32)
    (e : fn (F := Ideal) X T = fun _ => 1#1) : TopReal T := fun b y z =>
  test_real (max16 T) _ b y z (Host.reduce_andi_all _ _ _ _ ix0 (congrFun e ix0) (ix3 b y z))

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.Gen.ReferenceIdeal.Run
public import proofs.«01_k».proof.Proof.KernelRun
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The reference's idealization runs, keeps its arguments and ends with every counter at zero. -/
theorem reference_frame : quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Under the precondition the kernel's loss is the reference's result. -/
theorem equation : algebraic_KernelIdeal_ReferenceIdeal_pre_largest_target_finite (hKernelIdeal := Cert.KernelIdeal.Gen.facts)
    (hReferenceIdeal := Cert.ReferenceIdeal.Gen.facts) (hPre_largest_target_finite := Cert.Hand.preFacts) := by
  letI := Cert.Hand.preFacts
  intro m g m' g' hpre hargs
  refine ⟨fun c => Cert.KernelIdeal.Gen.W3 m g c (Proc.devRef .tc Cert.KernelIdeal.main_v2), Cert.KernelIdeal.Hand.run_raw m g, ?_⟩
  refine (θ_run Cert.ReferenceIdeal.defs _ _).mono (fun r h c => ⟨(h c).1.trans ?_, (h c).2⟩)
    (Cert.ReferenceIdeal.Value.run (F := Ideal) m' g')
  rw [Cert.ReferenceIdeal.Hand.result_stages m' c, (hargs c).1, (hargs c).2]
  exact (Cert.Hand.result_eq _ _ (Cert.Hand.top_real _ _ (hpre c))).trans (Cert.KernelIdeal.Hand.result_value m g c).symm

/-- Every claim of the certificate: the frames, the idealization and the equation of the two results. -/
theorem claim : Cert.Claim :=
  ⟨Cert.Kernel.Gen.facts, Cert.KernelIdeal.Gen.facts, Cert.ReferenceIdeal.Gen.facts, Cert.Hand.preFacts,
    fun m ρ _ => Cert.Kernel.Gen.frame m ρ,
    fun m ρ _ => Cert.KernelIdeal.Gen.frame m ρ, fun m ρ _ => Cert.KernelIdeal.Gen.frame m ρ,
    reference_frame, fun m ρ _ => reference_frame m ρ trivial,
    trivial, equation⟩

end Cert.Proof

end
